-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.BufferStatement Cert.KernelIdeal.S192x2x512 Cert.KernelIdeal.S192x1x512
  ∧ IdealRules.bf16_pair.PackStatement Cert.KernelIdeal.S192x512
  ∧ IdealRules.bf16_pair.Statement Cert.KernelIdeal.S192x2x512 Cert.KernelIdeal.S192x1x512
  ∧ IdealRules.bf16_pair.Statement Cert.KernelIdeal.S1x2x512 Cert.KernelIdeal.S1x1x512
  ∧ IdealRules.bf16_pair.Statement Cert.KernelIdeal.S16x512 Cert.KernelIdeal.S8x512

def algebraic_KernelIdeal_ReferenceIdeal_on_only_y [hKernelIdeal : Cert.KernelIdeal.Facts] [hReferenceIdeal : Cert.ReferenceIdeal.Facts] [hOn_only_y : Cert.On_only_y.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 12288]⟩ : Shape).Idx, (Cert.On_only_y.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v5_0) i = v0 c i)
          ∧ (∀ i : (⟨2, ![256, 1536]⟩ : Shape).Idx, (Cert.On_only_y.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v5_1) i = v1 c i)
          ∧ (∀ i : (⟨2, ![256, 192]⟩ : Shape).Idx, (Cert.On_only_y.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.KernelIdeal.nD Cert.KernelIdeal.τ).loc Cert.KernelIdeal.main_v5_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![256, 12288]⟩ : Shape).Idx, (Cert.On_only_y.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v38) i = v0 c i)
          ∧ (∀ i : (⟨2, ![256, 1536]⟩ : Shape).Idx, (Cert.On_only_y.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v39) i = v1 c i)
          ∧ (∀ i : (⟨2, ![256, 192]⟩ : Shape).Idx, (Cert.On_only_y.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.ReferenceIdeal.nD Cert.ReferenceIdeal.τ).loc Cert.ReferenceIdeal.main_v40) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hOn_only_y : Cert.On_only_y.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_only_y (hKernelIdeal := hKernelIdeal) (hReferenceIdeal := hReferenceIdeal) (hOn_only_y := hOn_only_y)
-- ==== On_only_y.lean ====
abbrev S2x128x3072 : Shape := ⟨3, ![2, 128, 3072]⟩
abbrev S3072 : Shape := ⟨1, ![3072]⟩
abbrev S_ : Shape := ⟨0, ![]⟩
abbrev S1536x12288 : Shape := ⟨2, ![1536, 12288]⟩
abbrev S192x12288 : Shape := ⟨2, ![192, 12288]⟩
abbrev S3072x32 : Shape := ⟨2, ![3072, 32]⟩
abbrev S32x12288 : Shape := ⟨2, ![32, 12288]⟩
abbrev S12288 : Shape := ⟨1, ![12288]⟩
abbrev S256x12288 : Shape := ⟨2, ![256, 12288]⟩
abbrev S256x1536 : Shape := ⟨2, ![256, 1536]⟩
abbrev S256x192 : Shape := ⟨2, ![256, 192]⟩

class Facts : Prop where
  bcast_S_S256x12288 : S_.BroadcastsInDim S256x12288 (![] : Fin 0 → Fin S256x12288.rank)
  bcast_S_S256x1536 : S_.BroadcastsInDim S256x1536 (![] : Fin 0 → Fin S256x1536.rank)
  bcast_S_S256x192 : S_.BroadcastsInDim S256x192 (![] : Fin 0 → Fin S256x192.rank)

variable [Facts]

def fn {F : FTy → Type} [FloatOps F] (main_arg0 : FVec F S2x128x3072 .bf16) (main_arg1 : FVec F S3072 .f32) (main_arg2 : FVec F S_ .f32) (main_arg3 : IVec S1536x12288 8) (main_arg4 : FVec F S192x12288 .fp8e4m3) (main_arg5 : FVec F S_ .f32) (main_arg6 : FVec F S3072x32 .bf16) (main_arg7 : FVec F S32x12288 .bf16) (main_arg8 : FVec F S12288 .f32) : IVec S256x12288 1 × IVec S256x1536 1 × IVec S256x192 1 :=
  let main_c : IVec S_ 1 := constantI S_ 1 1#1
  let main_v0 : IVec S256x12288 1 := broadcastInDim S256x12288 ![] bcast_S_S256x12288 main_c
  let main_c_0 : IVec S_ 1 := constantI S_ 1 0#1
  let main_v1 : IVec S256x1536 1 := broadcastInDim S256x1536 ![] bcast_S_S256x1536 main_c_0
  let main_c_1 : IVec S_ 1 := constantI S_ 1 0#1
  let main_v2 : IVec S256x192 1 := broadcastInDim S256x192 ![] bcast_S_S256x192 main_c_1
  (main_v0, main_v1, main_v2)
-- ==== Kernel.lean ====
abbrev S2x128x3072 : Shape := ⟨3, ![2, 128, 3072]⟩
abbrev S3072 : Shape := ⟨1, ![3072]⟩
abbrev S_ : Shape := ⟨0, ![]⟩
abbrev S1536x12288 : Shape := ⟨2, ![1536, 12288]⟩
abbrev S192x12288 : Shape := ⟨2, ![192, 12288]⟩
abbrev S3072x32 : Shape := ⟨2, ![3072, 32]⟩
abbrev S32x12288 : Shape := ⟨2, ![32, 12288]⟩
abbrev S12288 : Shape := ⟨1, ![12288]⟩
abbrev S256x3072 : Shape := ⟨2, ![256, 3072]⟩
abbrev S1x3072 : Shape := ⟨2, ![1, 3072]⟩
abbrev S1 : Shape := ⟨1, ![1]⟩
abbrev S1x12288 : Shape := ⟨2, ![1, 12288]⟩
abbrev S256x12288 : Shape := ⟨2, ![256, 12288]⟩
abbrev S256x1536 : Shape := ⟨2, ![256, 1536]⟩
abbrev S256x192 : Shape := ⟨2, ![256, 192]⟩
abbrev S1536x512 : Shape := ⟨2, ![1536, 512]⟩
abbrev S192x512 : Shape := ⟨2, ![192, 512]⟩
abbrev S32x512 : Shape := ⟨2, ![32, 512]⟩
abbrev S1x512 : Shape := ⟨2, ![1, 512]⟩
abbrev S256x512 : Shape := ⟨2, ![256, 512]⟩
abbrev S256x32 : Shape := ⟨2, ![256, 32]⟩
abbrev S256x256 : Shape := ⟨2, ![256, 256]⟩
abbrev S3072x512 : Shape := ⟨2, ![3072, 512]⟩
abbrev S16x128 : Shape := ⟨2, ![16, 128]⟩
abbrev S1x128 : Shape := ⟨2, ![1, 128]⟩
abbrev S16x128x1 : Shape := ⟨3, ![16, 128, 1]⟩
abbrev S32x128 : Shape := ⟨2, ![32, 128]⟩
abbrev S8x128 : Shape := ⟨2, ![8, 128]⟩
abbrev S8x512 : Shape := ⟨2, ![8, 512]⟩
abbrev S16x512 : Shape := ⟨2, ![16, 512]⟩

abbrev nBuf : Space → Nat
  | .hbm => 17
  | .vmem => 21
  | .smem => 2
  | _ => 0

abbrev bufTy : (tb : Table) → Fin (tcTables nBuf tb) → BufTy
  | .hbm, ⟨0, _⟩ => ⟨S2x128x3072, .bf16⟩
  | .hbm, ⟨1, _⟩ => ⟨S3072, .f32⟩
  | .hbm, ⟨2, _⟩ => ⟨S_, .f32⟩
  | .hbm, ⟨3, _⟩ => ⟨S1536x12288, .i8⟩
  | .hbm, ⟨4, _⟩ => ⟨S192x12288, .fp8e4m3⟩
  | .hbm, ⟨5, _⟩ => ⟨S_, .f32⟩
  | .hbm, ⟨6, _⟩ => ⟨S3072x32, .bf16⟩
  | .hbm, ⟨7, _⟩ => ⟨S32x12288, .bf16⟩
  | .hbm, ⟨8, _⟩ => ⟨S12288, .f32⟩
  | .hbm, ⟨9, _⟩ => ⟨S256x3072, .bf16⟩
  | .hbm, ⟨10, _⟩ => ⟨S1x3072, .f32⟩
  | .hbm, ⟨11, _⟩ => ⟨S1, .f32⟩
  | .hbm, ⟨12, _⟩ => ⟨S1, .f32⟩
  | .hbm, ⟨13, _⟩ => ⟨S1x12288, .f32⟩
  | .hbm, ⟨14, _⟩ => ⟨S256x12288, .bf16⟩
  | .hbm, ⟨15, _⟩ => ⟨S256x1536, .i8⟩
  | .hbm, ⟨16, _⟩ => ⟨S256x192, .fp8e4m3⟩
  | .local _ .vmem, ⟨0, _⟩ => ⟨S256x3072, .bf16⟩
  | .local _ .vmem, ⟨1, _⟩ => ⟨S1x3072, .f32⟩
  | .local _ .vmem, ⟨2, _⟩ => ⟨S1536x512, .i8⟩
  | .local _ .vmem, ⟨3, _⟩ => ⟨S1536x512, .i8⟩
  | .local _ .vmem, ⟨4, _⟩ => ⟨S192x512, .fp8e4m3⟩
  | .local _ .vmem, ⟨5, _⟩ => ⟨S192x512, .fp8e4m3⟩
  | .local _ .vmem, ⟨6, _⟩ => ⟨S3072x32, .bf16⟩
  | .local _ .vmem, ⟨7, _⟩ => ⟨S32x512, .bf16⟩
  | .local _ .vmem, ⟨8, _⟩ => ⟨S32x512, .bf16⟩
  | .local _ .vmem, ⟨9, _⟩ => ⟨S1x512, .f32⟩
  | .local _ .vmem, ⟨10, _⟩ => ⟨S1x512, .f32⟩
  | .local _ .vmem, ⟨11, _⟩ => ⟨S256x512, .bf16⟩
  | .local _ .vmem, ⟨12, _⟩ => ⟨S256x512, .bf16⟩
  | .local _ .vmem, ⟨13, _⟩ => ⟨S256x1536, .i8⟩
  | .local _ .vmem, ⟨14, _⟩ => ⟨S256x192, .fp8e4m3⟩
  | .local _ .vmem, ⟨15, _⟩ => ⟨S256x3072, .bf16⟩
  | .local _ .vmem, ⟨16, _⟩ => ⟨S256x3072, .bf16⟩
  | .local _ .vmem, ⟨17, _⟩ => ⟨S256x32, .bf16⟩
  | .local _ .vmem, ⟨18, _⟩ => ⟨S256x256, .f32⟩
  | .local _ .vmem, ⟨19, _⟩ => ⟨S192x512, .i32⟩
  | .local _ .vmem, ⟨20, _⟩ => ⟨S3072x512, .bf16⟩
  | .local _ .smem, ⟨0, _⟩ => ⟨S1, .f32⟩
  | .local _ .smem, ⟨1, _⟩ => ⟨S1, .f32⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_stg2_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [BitOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_847 : BitVec 32 := 0#32
  let c24_i32 : BitVec 32 := 24#32
  let v2623 : BitVec 32 := Scalar.addi c0_i32_847 c24_i32
  let c1_i32 : BitVec 32 := 1#32
  ⟨c0_i32_847, v2623, c1_i32⟩
def k0_mult1 (k0_t1 : Fin k0_t1_loop.trips) : BitVec 32 :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32 : BitVec 32 := 256#32
  let v2665 : BitVec 32 := Scalar.muli v2652 c256_i32
  v2665
def k0_mult2 (k0_t1 : Fin k0_t1_loop.trips) : BitVec 32 :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32_875 : BitVec 32 := 256#32
  let v2666 : BitVec 32 := Scalar.muli v2652 c256_i32_875
  let c128_i32 : BitVec 32 := 128#32
  let v2667 : BitVec 32 := Scalar.addi v2666 c128_i32
  v2667
def k0_mult3 (k0_t1 : Fin k0_t1_loop.trips) : BitVec 32 :=
  let c1536_i32 : BitVec 32 := 1536#32
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32_876 : BitVec 32 := 256#32
  let v2668 : BitVec 32 := Scalar.muli v2652 c256_i32_876
  let v2669 : BitVec 32 := Scalar.addi c1536_i32 v2668
  v2669
def k0_mult4 (k0_t1 : Fin k0_t1_loop.trips) : BitVec 32 :=
  let c1536_i32_878 : BitVec 32 := 1536#32
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32_877 : BitVec 32 := 256#32
  let v2670 : BitVec 32 := Scalar.muli v2652 c256_i32_877
  let v2671 : BitVec 32 := Scalar.addi c1536_i32_878 v2670
  let c128_i32_879 : BitVec 32 := 128#32
  let v2672 : BitVec 32 := Scalar.addi v2671 c128_i32_879
  v2672
def k0_mult5 (k0_t1 : Fin k0_t1_loop.trips) : BitVec 32 :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let c0_i32_880 : BitVec 32 := 0#32
  let v2677 : BitVec 32 := Scalar.addi v2664 c0_i32_880
  v2677
def k0_mult6 (k0_t1 : Fin k0_t1_loop.trips) : BitVec 32 :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let c16_i32 : BitVec 32 := 16#32
  let v2679 : BitVec 32 := Scalar.addi v2664 c16_i32
  v2679
def k0_mult7 (k0_t1 : Fin k0_t1_loop.trips) : BitVec 32 :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let c32_i32 : BitVec 32 := 32#32
  let v2681 : BitVec 32 := Scalar.addi v2664 c32_i32
  v2681
def k0_mult8 (k0_t1 : Fin k0_t1_loop.trips) : BitVec 32 :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let c48_i32 : BitVec 32 := 48#32
  let v2683 : BitVec 32 := Scalar.addi v2664 c48_i32
  v2683
def k0_off1 (k0_t1 : Fin k0_t1_loop.trips) (c0_i32_880 : BitVec 32) : Fin 2 → Nat :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let v2677 : BitVec 32 := Scalar.addi v2664 c0_i32_880
  let v2678 : BitVec 32 := v2677
  let v2685 : Index := Scalar.indexCast v2678
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32 : BitVec 32 := 256#32
  let v2665 : BitVec 32 := Scalar.muli v2652 c256_i32
  let v2673 : BitVec 32 := v2665
  let v2686 : Index := Scalar.indexCast v2673
  ![v2685.toNat, v2686.toNat]
def k0_off2 (k0_t1 : Fin k0_t1_loop.trips) : Fin 2 → Nat :=
  let c0_881 : Index := 0#32
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32 : BitVec 32 := 256#32
  let v2665 : BitVec 32 := Scalar.muli v2652 c256_i32
  let v2673 : BitVec 32 := v2665
  let v2690 : Index := Scalar.indexCast v2673
  ![0, v2690.toNat]
def k0_off3 (k0_t1 : Fin k0_t1_loop.trips) (c0_i32_880 : BitVec 32) : Fin 2 → Nat :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let v2677 : BitVec 32 := Scalar.addi v2664 c0_i32_880
  let v2678 : BitVec 32 := v2677
  let v2753 : Index := Scalar.indexCast v2678
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32_875 : BitVec 32 := 256#32
  let v2666 : BitVec 32 := Scalar.muli v2652 c256_i32_875
  let c128_i32 : BitVec 32 := 128#32
  let v2667 : BitVec 32 := Scalar.addi v2666 c128_i32
  let v2674 : BitVec 32 := v2667
  let v2754 : Index := Scalar.indexCast v2674
  ![v2753.toNat, v2754.toNat]
def k0_off4 (k0_t1 : Fin k0_t1_loop.trips) : Fin 2 → Nat :=
  let c0_885 : Index := 0#32
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32_875 : BitVec 32 := 256#32
  let v2666 : BitVec 32 := Scalar.muli v2652 c256_i32_875
  let c128_i32 : BitVec 32 := 128#32
  let v2667 : BitVec 32 := Scalar.addi v2666 c128_i32
  let v2674 : BitVec 32 := v2667
  let v2758 : Index := Scalar.indexCast v2674
  ![0, v2758.toNat]
def k0_off5 (k0_t1 : Fin k0_t1_loop.trips) (c0_i32_880 : BitVec 32) : Fin 2 → Nat :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let v2677 : BitVec 32 := Scalar.addi v2664 c0_i32_880
  let v2678 : BitVec 32 := v2677
  let v2821 : Index := Scalar.indexCast v2678
  let c1536_i32 : BitVec 32 := 1536#32
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32_876 : BitVec 32 := 256#32
  let v2668 : BitVec 32 := Scalar.muli v2652 c256_i32_876
  let v2669 : BitVec 32 := Scalar.addi c1536_i32 v2668
  let v2675 : BitVec 32 := v2669
  let v2822 : Index := Scalar.indexCast v2675
  ![v2821.toNat, v2822.toNat]
def k0_off6 (k0_t1 : Fin k0_t1_loop.trips) : Fin 2 → Nat :=
  let c0_889 : Index := 0#32
  let c1536_i32 : BitVec 32 := 1536#32
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32_876 : BitVec 32 := 256#32
  let v2668 : BitVec 32 := Scalar.muli v2652 c256_i32_876
  let v2669 : BitVec 32 := Scalar.addi c1536_i32 v2668
  let v2675 : BitVec 32 := v2669
  let v2826 : Index := Scalar.indexCast v2675
  ![0, v2826.toNat]
def k0_off7 (k0_t1 : Fin k0_t1_loop.trips) (c0_i32_880 : BitVec 32) : Fin 2 → Nat :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let v2677 : BitVec 32 := Scalar.addi v2664 c0_i32_880
  let v2678 : BitVec 32 := v2677
  let v2889 : Index := Scalar.indexCast v2678
  let c1536_i32_878 : BitVec 32 := 1536#32
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32_877 : BitVec 32 := 256#32
  let v2670 : BitVec 32 := Scalar.muli v2652 c256_i32_877
  let v2671 : BitVec 32 := Scalar.addi c1536_i32_878 v2670
  let c128_i32_879 : BitVec 32 := 128#32
  let v2672 : BitVec 32 := Scalar.addi v2671 c128_i32_879
  let v2676 : BitVec 32 := v2672
  let v2890 : Index := Scalar.indexCast v2676
  ![v2889.toNat, v2890.toNat]
def k0_off8 (k0_t1 : Fin k0_t1_loop.trips) : Fin 2 → Nat :=
  let c0_893 : Index := 0#32
  let c1536_i32_878 : BitVec 32 := 1536#32
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32_877 : BitVec 32 := 256#32
  let v2670 : BitVec 32 := Scalar.muli v2652 c256_i32_877
  let v2671 : BitVec 32 := Scalar.addi c1536_i32_878 v2670
  let c128_i32_879 : BitVec 32 := 128#32
  let v2672 : BitVec 32 := Scalar.addi v2671 c128_i32_879
  let v2676 : BitVec 32 := v2672
  let v2894 : Index := Scalar.indexCast v2676
  ![0, v2894.toNat]
def k0_mult9 (k0_t1 : Fin k0_t1_loop.trips) : BitVec 32 :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let c0_i32_1199 : BitVec 32 := 0#32
  let v4045 : BitVec 32 := Scalar.addi v2664 c0_i32_1199
  v4045
def k0_off9 (k0_t1 : Fin k0_t1_loop.trips) (c0_i32_1199 : BitVec 32) : Fin 2 → Nat :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let v4045 : BitVec 32 := Scalar.addi v2664 c0_i32_1199
  let v4046 : BitVec 32 := v4045
  let v4047 : Index := Scalar.indexCast v4046
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32 : BitVec 32 := 256#32
  let v2665 : BitVec 32 := Scalar.muli v2652 c256_i32
  let v2673 : BitVec 32 := v2665
  let v4048 : Index := Scalar.indexCast v2673
  ![v4047.toNat, v4048.toNat]
def k0_mult10 (k0_t1 : Fin k0_t1_loop.trips) : BitVec 32 :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let c32_i32_1227 : BitVec 32 := 32#32
  let v4126 : BitVec 32 := Scalar.addi v2664 c32_i32_1227
  v4126
def k0_mult11 (k0_t1 : Fin k0_t1_loop.trips) : BitVec 32 :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let c0_i32_1255 : BitVec 32 := 0#32
  let v4207 : BitVec 32 := Scalar.addi v2664 c0_i32_1255
  v4207
def k0_off10 (k0_t1 : Fin k0_t1_loop.trips) (c0_i32_1255 : BitVec 32) : Fin 2 → Nat :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let v4207 : BitVec 32 := Scalar.addi v2664 c0_i32_1255
  let v4208 : BitVec 32 := v4207
  let v4209 : Index := Scalar.indexCast v4208
  let c0_i32_863 : BitVec 32 := 0#32
  let v2637 : BitVec 1 := Scalar.cmpi .sgt v2635 c0_i32_863
  let v2638 : BitVec 32 := Scalar.extui v2637
  let c0_i32_864 : BitVec 32 := 0#32
  let v2639 : BitVec 1 := Scalar.cmpi .slt v2635 c0_i32_864
  let v2640 : BitVec 32 := Scalar.extui v2639
  let v2641 : BitVec 32 := Scalar.subi v2638 v2640
  let c4_i32_862 : BitVec 32 := 4#32
  let c0_i32_865 : BitVec 32 := 0#32
  let v2642 : BitVec 1 := Scalar.cmpi .sgt c4_i32_862 c0_i32_865
  let v2643 : BitVec 32 := Scalar.extui v2642
  let c0_i32_866 : BitVec 32 := 0#32
  let v2644 : BitVec 1 := Scalar.cmpi .slt c4_i32_862 c0_i32_866
  let v2645 : BitVec 32 := Scalar.extui v2644
  let v2646 : BitVec 32 := Scalar.subi v2643 v2645
  let v2647 : BitVec 1 := Scalar.cmpi .ne v2641 v2646
  let v2648 : BitVec 32 := Scalar.remsi v2635 c4_i32_862
  let c0_i32_867 : BitVec 32 := 0#32
  let v2649 : BitVec 1 := Scalar.cmpi .ne v2648 c0_i32_867
  let v2650 : BitVec 1 := Scalar.andi v2647 v2649
  let v2636 : BitVec 32 := Scalar.divsi v2635 c4_i32_862
  let c1_i32_868 : BitVec 32 := 1#32
  let v2651 : BitVec 32 := Scalar.subi v2636 c1_i32_868
  let v2652 : BitVec 32 := Scalar.select v2650 v2651 v2636
  let c256_i32_875 : BitVec 32 := 256#32
  let v2666 : BitVec 32 := Scalar.muli v2652 c256_i32_875
  let c128_i32 : BitVec 32 := 128#32
  let v2667 : BitVec 32 := Scalar.addi v2666 c128_i32
  let v2674 : BitVec 32 := v2667
  let v4210 : Index := Scalar.indexCast v2674
  ![v4209.toNat, v4210.toNat]
def k0_mult12 (k0_t1 : Fin k0_t1_loop.trips) : BitVec 32 :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let c32_i32_1283 : BitVec 32 := 32#32
  let v4288 : BitVec 32 := Scalar.addi v2664 c32_i32_1283
  v4288
def k0_off11 (k0_t1 : Fin k0_t1_loop.trips) (c0_i32_880 : BitVec 32) : Fin 2 → Nat :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let v2677 : BitVec 32 := Scalar.addi v2664 c0_i32_880
  let v2678 : BitVec 32 := v2677
  let v4324 : Index := Scalar.indexCast v2678
  let c0_1295 : Index := 0#32
  ![v4324.toNat, 0]
def k0_off12 (k0_t1 : Fin k0_t1_loop.trips) (c0_i32_880 : BitVec 32) : Fin 2 → Nat :=
  let c0_i32_861 : BitVec 32 := 0#32
  let c0_i32_847 : BitVec 32 := 0#32
  let c1_i32 : BitVec 32 := 1#32
  let arg19 : BitVec 32 := Scf.iv c0_i32_847 c1_i32 k0_t1
  let c1_i32_860 : BitVec 32 := 1#32
  let v2634 : BitVec 32 := Scalar.muli arg19 c1_i32_860
  let v2635 : BitVec 32 := Scalar.addi c0_i32_861 v2634
  let c4_i32_869 : BitVec 32 := 4#32
  let c0_i32_870 : BitVec 32 := 0#32
  let v2653 : BitVec 1 := Scalar.cmpi .eq c4_i32_869 c0_i32_870
  let c1_i32_871 : BitVec 32 := 1#32
  let v2654 : BitVec 32 := Scalar.select v2653 c1_i32_871 c4_i32_869
  let v2655 : BitVec 32 := Scalar.remsi v2635 v2654
  let c0_i32_873 : BitVec 32 := 0#32
  let v2657 : BitVec 1 := Scalar.cmpi .slt v2655 c0_i32_873
  let c0_i32_874 : BitVec 32 := 0#32
  let v2658 : BitVec 1 := Scalar.cmpi .slt v2654 c0_i32_874
  let v2659 : BitVec 1 := Scalar.xori v2657 v2658
  let c0_i32_872 : BitVec 32 := 0#32
  let v2656 : BitVec 1 := Scalar.cmpi .ne v2655 c0_i32_872
  let v2660 : BitVec 1 := Scalar.andi v2659 v2656
  let v2661 : BitVec 32 := Scalar.addi v2655 v2654
  let v2662 : BitVec 32 := Scalar.select v2660 v2661 v2655
  let c64_i32 : BitVec 32 := 64#32
  let v2664 : BitVec 32 := Scalar.muli v2662 c64_i32
  let v2677 : BitVec 32 := Scalar.addi v2664 c0_i32_880
  let v2678 : BitVec 32 := v2677
  let v4326 : Index := Scalar.indexCast v2678
  let c128_1296 : Index := 128#32
  ![v4326.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1536 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x192 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
abbrev S192x2x512 : Shape := ⟨3, ![192, 2, 512]⟩
abbrev S192x1x512 : Shape := ⟨3, ![192, 1, 512]⟩
abbrev S1x2x512 : Shape := ⟨3, ![1, 2, 512]⟩
abbrev S1x1x512 : Shape := ⟨3, ![1, 1, 512]⟩
  | .local _ .vmem, ⟨19, _⟩ => ⟨S192x2x512, .bf16⟩
variable {F : FTy → Type} [FloatOps F]
-- ==== ReferenceIdeal.lean ====
abbrev S2x128x3072 : Shape := ⟨3, ![2, 128, 3072]⟩
abbrev S3072 : Shape := ⟨1, ![3072]⟩
abbrev S_ : Shape := ⟨0, ![]⟩
abbrev S1536x12288 : Shape := ⟨2, ![1536, 12288]⟩
abbrev S192x12288 : Shape := ⟨2, ![192, 12288]⟩
abbrev S3072x32 : Shape := ⟨2, ![3072, 32]⟩
abbrev S32x12288 : Shape := ⟨2, ![32, 12288]⟩
abbrev S12288 : Shape := ⟨1, ![12288]⟩
abbrev S1x1x3072 : Shape := ⟨3, ![1, 1, 3072]⟩
abbrev S2x128x2x96x16 : Shape := ⟨5, ![2, 128, 2, 96, 16]⟩
abbrev S2x128x2x96 : Shape := ⟨4, ![2, 128, 2, 96]⟩
abbrev S1 : Shape := ⟨1, ![1]⟩
abbrev S96x16x12288 : Shape := ⟨3, ![96, 16, 12288]⟩
abbrev S2x96x12288 : Shape := ⟨3, ![2, 96, 12288]⟩
abbrev S2x128x96x16 : Shape := ⟨4, ![2, 128, 96, 16]⟩
abbrev S2x128x2x96x1 : Shape := ⟨5, ![2, 128, 2, 96, 1]⟩
abbrev S2x128x1x96x16 : Shape := ⟨5, ![2, 128, 1, 96, 16]⟩
abbrev S2x128x1x96 : Shape := ⟨4, ![2, 128, 1, 96]⟩
abbrev S2x128x96 : Shape := ⟨3, ![2, 128, 96]⟩
abbrev S2x128x96x1 : Shape := ⟨4, ![2, 128, 96, 1]⟩
abbrev S1x96x12288 : Shape := ⟨3, ![1, 96, 12288]⟩
abbrev S96x12288 : Shape := ⟨2, ![96, 12288]⟩
abbrev S96x1x12288 : Shape := ⟨3, ![96, 1, 12288]⟩
abbrev S2x128x1536 : Shape := ⟨3, ![2, 128, 1536]⟩
abbrev S2x128x1536x1 : Shape := ⟨4, ![2, 128, 1536, 1]⟩
abbrev S2x128x1536x2 : Shape := ⟨4, ![2, 128, 1536, 2]⟩
abbrev S1536x1x12288 : Shape := ⟨3, ![1536, 1, 12288]⟩
abbrev S1536x2x12288 : Shape := ⟨3, ![1536, 2, 12288]⟩
abbrev S2x128x12288 : Shape := ⟨3, ![2, 128, 12288]⟩
abbrev S2x128x32 : Shape := ⟨3, ![2, 128, 32]⟩
abbrev S1x1x12288 : Shape := ⟨3, ![1, 1, 12288]⟩
abbrev S256x12288 : Shape := ⟨2, ![256, 12288]⟩
abbrev S256x1536 : Shape := ⟨2, ![256, 1536]⟩
abbrev S256x192 : Shape := ⟨2, ![256, 192]⟩

abbrev nBuf : Space → Nat
  | .hbm => 64
  | .vmem => 10
  | .smem => 1
  | _ => 0

abbrev bufTy : (tb : Table) → Fin (tcTables nBuf tb) → BufTy
  | .hbm, ⟨0, _⟩ => ⟨S2x128x3072, .bf16⟩
  | .hbm, ⟨1, _⟩ => ⟨S3072, .f32⟩
  | .hbm, ⟨2, _⟩ => ⟨S_, .f32⟩
  | .hbm, ⟨3, _⟩ => ⟨S1536x12288, .i8⟩
  | .hbm, ⟨4, _⟩ => ⟨S192x12288, .fp8e4m3⟩
  | .hbm, ⟨5, _⟩ => ⟨S_, .f32⟩
  | .hbm, ⟨6, _⟩ => ⟨S3072x32, .bf16⟩
  | .hbm, ⟨7, _⟩ => ⟨S32x12288, .bf16⟩
  | .hbm, ⟨8, _⟩ => ⟨S12288, .f32⟩
  | .hbm, ⟨9, _⟩ => ⟨S2x128x3072, .f32⟩
  | .hbm, ⟨10, _⟩ => ⟨S1x1x3072, .f32⟩
  | .hbm, ⟨11, _⟩ => ⟨S2x128x3072, .f32⟩
  | .hbm, ⟨12, _⟩ => ⟨S2x128x3072, .f32⟩
  | .hbm, ⟨13, _⟩ => ⟨S2x128x2x96x16, .f32⟩
  | .hbm, ⟨14, _⟩ => ⟨S2x128x2x96x16, .f32⟩
  | .hbm, ⟨15, _⟩ => ⟨S_, .f32⟩
  | .hbm, ⟨16, _⟩ => ⟨S2x128x2x96, .f32⟩
  | .hbm, ⟨17, _⟩ => ⟨S_, .f32⟩
  | .hbm, ⟨18, _⟩ => ⟨S_, .f32⟩
  | .hbm, ⟨19, _⟩ => ⟨S2x128x2x96, .f32⟩
  | .hbm, ⟨20, _⟩ => ⟨S2x128x2x96, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x128x2x96, .f32⟩
  | .hbm, ⟨25, _⟩ => ⟨S2x128x2x96, .f32⟩
  | .hbm, ⟨26, _⟩ => ⟨S_, .f32⟩
  | .hbm, ⟨27, _⟩ => ⟨S2x128x2x96, .f32⟩
  | .hbm, ⟨28, _⟩ => ⟨S2x128x2x96, .f32⟩
  | .hbm, ⟨29, _⟩ => ⟨S1, .f32⟩
  | .hbm, ⟨30, _⟩ => ⟨S96x16x12288, .i8⟩
  | .hbm, ⟨31, _⟩ => ⟨S2x96x12288, .fp8e4m3⟩
  | .hbm, ⟨32, _⟩ => ⟨S2x128x96x16, .i8⟩
  | .hbm, ⟨33, _⟩ => ⟨S2x128x2x96, .fp8e4m3⟩
  | .hbm, ⟨34, _⟩ => ⟨S2x128x96x16, .bf16⟩
  | .hbm, ⟨35, _⟩ => ⟨S2x128x96x16, .bf16⟩
  | .hbm, ⟨36, _⟩ => ⟨S96x16x12288, .bf16⟩
  | .hbm, ⟨37, _⟩ => ⟨S96x16x12288, .bf16⟩
  | .hbm, ⟨38, _⟩ => ⟨S2x128x1536, .bf16⟩
  | .hbm, ⟨39, _⟩ => ⟨S2x128x1536, .bf16⟩
  | .hbm, ⟨40, _⟩ => ⟨S2x128x1536x1, .bf16⟩
  | .hbm, ⟨41, _⟩ => ⟨S2x128x1536x1, .bf16⟩
  | .hbm, ⟨42, _⟩ => ⟨S2x128x1536x2, .bf16⟩
  | .hbm, ⟨43, _⟩ => ⟨S1536x12288, .bf16⟩
  | .hbm, ⟨44, _⟩ => ⟨S1536x12288, .bf16⟩
  | .hbm, ⟨45, _⟩ => ⟨S1536x1x12288, .bf16⟩
  | .hbm, ⟨46, _⟩ => ⟨S1536x1x12288, .bf16⟩
  | .hbm, ⟨47, _⟩ => ⟨S1536x2x12288, .bf16⟩
  | .hbm, ⟨48, _⟩ => ⟨S2x128x12288, .f32⟩
  | .hbm, ⟨49, _⟩ => ⟨S2x128x3072, .bf16⟩
  | .hbm, ⟨50, _⟩ => ⟨S2x128x32, .f32⟩
  | .hbm, ⟨51, _⟩ => ⟨S2x128x32, .bf16⟩
  | .hbm, ⟨52, _⟩ => ⟨S2x128x12288, .f32⟩
  | .hbm, ⟨53, _⟩ => ⟨S_, .f32⟩
  | .hbm, ⟨54, _⟩ => ⟨S2x128x12288, .f32⟩
  | .hbm, ⟨55, _⟩ => ⟨S2x128x12288, .f32⟩
  | .hbm, ⟨56, _⟩ => ⟨S2x128x12288, .f32⟩
  | .hbm, ⟨57, _⟩ => ⟨S1x1x12288, .f32⟩
  | .hbm, ⟨58, _⟩ => ⟨S2x128x12288, .f32⟩
  | .hbm, ⟨59, _⟩ => ⟨S2x128x12288, .f32⟩
  | .hbm, ⟨60, _⟩ => ⟨S2x128x12288, .bf16⟩
  | .hbm, ⟨61, _⟩ => ⟨S256x12288, .bf16⟩
  | .hbm, ⟨62, _⟩ => ⟨S256x1536, .i8⟩
  | .hbm, ⟨63, _⟩ => ⟨S256x192, .fp8e4m3⟩
  | .local _ .vmem, ⟨0, _⟩ => ⟨S2x128x2x96, .f32⟩
  | .local _ .vmem, ⟨1, _⟩ => ⟨S2x128x2x96x16, .f32⟩
  | .local _ .vmem, ⟨2, _⟩ => ⟨S96x16x12288, .i8⟩
  | .local _ .vmem, ⟨3, _⟩ => ⟨S2x96x12288, .fp8e4m3⟩
  | .local _ .vmem, ⟨4, _⟩ => ⟨S2x128x96x16, .i8⟩
  | .local _ .vmem, ⟨5, _⟩ => ⟨S2x128x2x96, .fp8e4m3⟩
  | .local _ .vmem, ⟨6, _⟩ => ⟨S2x128x96x16, .bf16⟩
  | .local _ .vmem, ⟨7, _⟩ => ⟨S2x128x96x16, .bf16⟩
  | .local _ .vmem, ⟨8, _⟩ => ⟨S96x16x12288, .bf16⟩
  | .local _ .vmem, ⟨9, _⟩ => ⟨S96x16x12288, .bf16⟩
  | .local _ .smem, ⟨0, _⟩ => ⟨S1, .f32⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev main_v14_4 : Ref sig .tc := ⟨.hbm, 36, rfl⟩
abbrev main_v14_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x128x2x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x2x96x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x16x12288 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x96x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x96x16 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x2x96 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x96x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x96x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S96x16x12288 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x16x12288 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Off.lean ====
/- Closed forms of the offsets the quantising loop of `Kernel` computes from its trip number: trip `k` works on the
   64-row block `k % 4` and the column tile `k / 4`. The instances let the symbolic run place each access. -/
module

public import proofs.«01_k».proof.Proof.Gen.Kernel
public import Idealize.ShloMosaic.Lib.Exec
public import Idealize.ShloMosaic.Lib.Tactic

@[expose] public section

noncomputable section

namespace Cert.Kernel.Gen

open Idealize.ShloMosaic Idealize.ShloMosaic.Tactic

/-- `k0_off1` in closed form; use (`simp only [Gen.k0_off1_eq]`). -/
theorem k0_off1_eq : ∀ k0_t1 : Fin k0_t1_loop.trips, ∀ (r : Fin 4), k0_off1 k0_t1 (BitVec.ofNat 32 (16 * r.val)) = ![64 * (k0_t1.val % 4) + 16 * r.val, 256 * (k0_t1.val / 4)] := by decide +kernel
instance closedOff_k0_off1_0 (k0_t1 : Fin k0_t1_loop.trips) : ClosedOff (k0_off1 k0_t1 (BitVec.ofNat 32 0)) := ⟨![64 * (k0_t1.val % 4) + 16 * 0, 256 * (k0_t1.val / 4)], k0_off1_eq k0_t1 ⟨0, by decide⟩⟩
instance closedOff_k0_off1_1 (k0_t1 : Fin k0_t1_loop.trips) : ClosedOff (k0_off1 k0_t1 (BitVec.ofNat 32 16)) := ⟨![64 * (k0_t1.val % 4) + 16 * 1, 256 * (k0_t1.val / 4)], k0_off1_eq k0_t1 ⟨1, by decide⟩⟩
instance closedOff_k0_off1_2 (k0_t1 : Fin k0_t1_loop.trips) : ClosedOff (k0_off1 k0_t1 (BitVec.ofNat 32 32)) := ⟨![64 * (k0_t1.val % 4) + 16 * 2, 256 * (k0_t1.val / 4)], k0_off1_eq k0_t1 ⟨2, by decide⟩⟩
instance closedOff_k0_off1_3 (k0_t1 : Fin k0_t1_loop.trips) : ClosedOff (k0_off1 k0_t1 (BitVec.ofNat 32 48)) := ⟨![64 * (k0_t1.val % 4) + 16 * 3, 256 * (k0_t1.val / 4)], k0_off1_eq k0_t1 ⟨3, by decide⟩⟩
/-- `k0_off2` in closed form; use (`simp only [Gen.k0_off2_eq]`). -/
theorem k0_off2_eq : ∀ k0_t1 : Fin k0_t1_loop.trips, k0_off2 k0_t1 = ![0, 256 * (k0_t1.val / 4)] := by decide +kernel
instance closedOff_k0_off2 (k0_t1 : Fin k0_t1_loop.trips) : ClosedOff (k0_off2 k0_t1) := ⟨![0, 256 * (k0_t1.val / 4)], k0_off2_eq k0_t1⟩
/-- `k0_off3` in closed form; use (`simp only [Gen.k0_off3_eq]`). -/
theorem k0_off3_eq : ∀ k0_t1 : Fin k0_t1_loop.trips, ∀ (r : Fin 4), k0_off3 k0_t1 (BitVec.ofNat 32 (16 * r.val)) = ![64 * (k0_t1.val % 4) + 16 * r.val, 256 * (k0_t1.val / 4) + 128] := by decide +kernel
instance closedOff_k0_off3_0 (k0_t1 : Fin k0_t1_loop.trips) : ClosedOff (k0_off3 k0_t1 (BitVec.ofNat 32 0)) := ⟨![64 * (k0_t1.val % 4) + 16 * 0, 256 * (k0_t1.val / 4) + 128], k0_off3_eq k0_t1 ⟨0, by decide⟩⟩
instance closedOff_k0_off3_1 (k0_t1 : Fin k0_t1_loop.trips) : ClosedOff (k0_off3 k0_t1 (BitVec.ofNat 32 16)) := ⟨![64 * (k0_t1.val % 4) + 16 * 1, 256 * (k0_t1.val / 4) + 128], k0_off3_eq k0_t1 ⟨1, by decide⟩⟩
instance closedOff_k0_off3_2 (k0_t1 : Fin k0_t1_loop.trips) : ClosedOff (k0_off3 k0_t1 (BitVec.ofNat 32 32)) := ⟨![64 * (k0_t1.val % 4) + 16 * 2, 256 * (k0_t1.val / 4) + 128], k0_off3_eq k0_t1 ⟨2, by decide⟩⟩
instance closedOff_k0_off3_3 (k0_t1 : Fin k0_t1_loop.trips) : ClosedOff (k0_off3 k0_t1 (BitVec.ofNat 32 48)) := ⟨![64 * (k0_t1.val % 4) + 16 * 3, 256 * (k0_t1.val / 4) + 128], k0_off3_eq k0_t1 ⟨3, by decide⟩⟩
/-- `k0_off4` in closed form; use (`simp only [Gen.k0_off4_eq]`). -/
theorem k0_off4_eq : ∀ k0_t1 : Fin k0_t1_loop.trips, k0_off4 k0_t1 = ![0, 256 * (k0_t1.val / 4) + 128] := by decide +kernel
instance closedOff_k0_off4 (k0_t1 : Fin k0_t1_loop.trips) : ClosedOff (k0_off4 k0_t1) := ⟨![0, 256 * (k0_t1.val / 4) + 128], k0_off4_eq k0_t1⟩
/-- `k0_off5` in closed form; use (`simp only [Gen.k0_off5_eq]`). -/
theorem k0_off5_eq : ∀ k0_t1 : Fin k0_t1_loop.trips, ∀ (r : Fin 4), k0_off5 k0_t1 (BitVec.ofNat 32 (16 * r.val)) = ![64 * (k0_t1.val % 4) + 16 * r.val, 256 * (k0_t1.val / 4) + 1536] := by decide +kernel
instance closedOff_k0_off5_0 (k0_t1 : Fin k0_t1_loop.trips) : ClosedOff (k0_off5 k0_t1 (BitVec.ofNat 32 0)) := ⟨![64 * (k0_t1.val % 4) + 16 * 0, 256 * (k0_t1.val / 4) + 1536], k0_off5_eq k0_t1 ⟨0, by decide⟩⟩
instance closedOff_k0_off5_1 (k0_t1 : Fin k0_t1_loop.trips) : ClosedOff (k0_off5 k0_t1 (BitVec.ofNat 32 16)) := ⟨![64 * (k0_t1.val % 4) + 16 * 1, 256 * (k0_t1.val / 4) + 1536], k0_off5_eq k0_t1 ⟨1, by decide⟩⟩
instance closedOff_k0_off5_2 (k0_t1 : Fin k0_t1_loop.trips) : ClosedOff (k0_off5 k0_t1 (BitVec.ofNat 32 32)) := ⟨![64 * (k0_t1.val % 4) + 16 * 2, 256 * (k0_t1.val / 4) + 1536], k0_off5_eq k0_t1 ⟨2, by decide⟩⟩
instance closedOff_k0_off5_3 (k0_t1 : Fin k0_t1_loop.trips) : ClosedOff (k0_off5 k0_t1 (BitVec.ofNat 32 48)) := ⟨![64 * (k0_t1.val % 4) + 16 * 3, 256 * (k0_t1.val / 4) + 1536], k0_off5_eq k0_t1 ⟨3, by decide⟩⟩
/-- `k0_off6` in closed form; use (`simp only [Gen.k0_off6_eq]`). -/
theorem k0_off6_eq : ∀ k0_t1 : Fin k0_t1_loop.trips, k0_off6 k0_t1 = ![0, 256 * (k0_t1.val / 4) + 1536] := by decide +kernel
instance closedOff_k0_off6 (k0_t1 : Fin k0_t1_loop.trips) : ClosedOff (k0_off6 k0_t1) := ⟨![0, 256 * (k0_t1.val / 4) + 1536], k0_off6_eq k0_t1⟩
/-- `k0_off7` in closed form; use (`simp only [Gen.k0_off7_eq]`). -/
theorem k0_off7_eq : ∀ k0_t1 : Fin k0_t1_loop.trips, ∀ (r : Fin 4), k0_off7 k0_t1 (BitVec.ofNat 32 (16 * r.val)) = ![64 * (k0_t1.val % 4) + 16 * r.val, 256 * (k0_t1.val / 4) + 1664] := by decide +kernel
instance closedOff_k0_off7_0 (k0_t1 : Fin k0_t1_loop.trips) : ClosedOff (k0_off7 k0_t1 (BitVec.ofNat 32 0)) := ⟨![64 * (k0_t1.val % 4) + 16 * 0, 256 * (k0_t1.val / 4) + 1664], k0_off7_eq k0_t1 ⟨0, by decide⟩⟩
instance closedOff_k0_off7_1 (k0_t1 : Fin k0_t1_loop.trips) : ClosedOff (k0_off7 k0_t1 (BitVec.ofNat 32 16)) := ⟨![64 * (k0_t1.val % 4) + 16 * 1, 256 * (k0_t1.val / 4) + 1664], k0_off7_eq k0_t1 ⟨1, by decide⟩⟩
instance closedOff_k0_off7_2 (k0_t1 : Fin k0_t1_loop.trips) : ClosedOff (k0_off7 k0_t1 (BitVec.ofNat 32 32)) := ⟨![64 * (k0_t1.val % 4) + 16 * 2, 256 * (k0_t1.val / 4) + 1664], k0_off7_eq k0_t1 ⟨2, by decide⟩⟩
instance closedOff_k0_off7_3 (k0_t1 : Fin k0_t1_loop.trips) : ClosedOff (k0_off7 k0_t1 (BitVec.ofNat 32 48)) := ⟨![64 * (k0_t1.val % 4) + 16 * 3, 256 * (k0_t1.val / 4) + 1664], k0_off7_eq k0_t1 ⟨3, by decide⟩⟩
/-- `k0_off8` in closed form; use (`simp only [Gen.k0_off8_eq]`). -/
theorem k0_off8_eq : ∀ k0_t1 : Fin k0_t1_loop.trips, k0_off8 k0_t1 = ![0, 256 * (k0_t1.val / 4) + 1664] := by decide +kernel
instance closedOff_k0_off8 (k0_t1 : Fin k0_t1_loop.trips) : ClosedOff (k0_off8 k0_t1) := ⟨![0, 256 * (k0_t1.val / 4) + 1664], k0_off8_eq k0_t1⟩
/-- `k0_off9` in closed form; use (`simp only [Gen.k0_off9_eq]`). -/
theorem k0_off9_eq : ∀ k0_t1 : Fin k0_t1_loop.trips, ∀ (r : Fin 2), k0_off9 k0_t1 (BitVec.ofNat 32 (32 * r.val)) = ![64 * (k0_t1.val % 4) + 32 * r.val, 256 * (k0_t1.val / 4)] := by decide +kernel
instance closedOff_k0_off9_0 (k0_t1 : Fin k0_t1_loop.trips) : ClosedOff (k0_off9 k0_t1 (BitVec.ofNat 32 0)) := ⟨![64 * (k0_t1.val % 4) + 32 * 0, 256 * (k0_t1.val / 4)], k0_off9_eq k0_t1 ⟨0, by decide⟩⟩
instance closedOff_k0_off9_1 (k0_t1 : Fin k0_t1_loop.trips) : ClosedOff (k0_off9 k0_t1 (BitVec.ofNat 32 32)) := ⟨![64 * (k0_t1.val % 4) + 32 * 1, 256 * (k0_t1.val / 4)], k0_off9_eq k0_t1 ⟨1, by decide⟩⟩
/-- `k0_off10` in closed form; use (`simp only [Gen.k0_off10_eq]`). -/
theorem k0_off10_eq : ∀ k0_t1 : Fin k0_t1_loop.trips, ∀ (r : Fin 2), k0_off10 k0_t1 (BitVec.ofNat 32 (32 * r.val)) = ![64 * (k0_t1.val % 4) + 32 * r.val, 256 * (k0_t1.val / 4) + 128] := by decide +kernel
instance closedOff_k0_off10_0 (k0_t1 : Fin k0_t1_loop.trips) : ClosedOff (k0_off10 k0_t1 (BitVec.ofNat 32 0)) := ⟨![64 * (k0_t1.val % 4) + 32 * 0, 256 * (k0_t1.val / 4) + 128], k0_off10_eq k0_t1 ⟨0, by decide⟩⟩
instance closedOff_k0_off10_1 (k0_t1 : Fin k0_t1_loop.trips) : ClosedOff (k0_off10 k0_t1 (BitVec.ofNat 32 32)) := ⟨![64 * (k0_t1.val % 4) + 32 * 1, 256 * (k0_t1.val / 4) + 128], k0_off10_eq k0_t1 ⟨1, by decide⟩⟩
/-- `k0_off11` in closed form; use (`simp only [Gen.k0_off11_eq]`). -/
theorem k0_off11_eq : ∀ k0_t1 : Fin k0_t1_loop.trips, ∀ (r : Fin 4), k0_off11 k0_t1 (BitVec.ofNat 32 (16 * r.val)) = ![64 * (k0_t1.val % 4) + 16 * r.val, 0] := by decide +kernel
instance closedOff_k0_off11_0 (k0_t1 : Fin k0_t1_loop.trips) : ClosedOff (k0_off11 k0_t1 (BitVec.ofNat 32 0)) := ⟨![64 * (k0_t1.val % 4) + 16 * 0, 0], k0_off11_eq k0_t1 ⟨0, by decide⟩⟩
instance closedOff_k0_off11_1 (k0_t1 : Fin k0_t1_loop.trips) : ClosedOff (k0_off11 k0_t1 (BitVec.ofNat 32 16)) := ⟨![64 * (k0_t1.val % 4) + 16 * 1, 0], k0_off11_eq k0_t1 ⟨1, by decide⟩⟩
instance closedOff_k0_off11_2 (k0_t1 : Fin k0_t1_loop.trips) : ClosedOff (k0_off11 k0_t1 (BitVec.ofNat 32 32)) := ⟨![64 * (k0_t1.val % 4) + 16 * 2, 0], k0_off11_eq k0_t1 ⟨2, by decide⟩⟩
instance closedOff_k0_off11_3 (k0_t1 : Fin k0_t1_loop.trips) : ClosedOff (k0_off11 k0_t1 (BitVec.ofNat 32 48)) := ⟨![64 * (k0_t1.val % 4) + 16 * 3, 0], k0_off11_eq k0_t1 ⟨3, by decide⟩⟩
/-- `k0_off12` in closed form; use (`simp only [Gen.k0_off12_eq]`). -/
theorem k0_off12_eq : ∀ k0_t1 : Fin k0_t1_loop.trips, ∀ (r : Fin 4), k0_off12 k0_t1 (BitVec.ofNat 32 (16 * r.val)) = ![64 * (k0_t1.val % 4) + 16 * r.val, 128] := by decide +kernel
instance closedOff_k0_off12_0 (k0_t1 : Fin k0_t1_loop.trips) : ClosedOff (k0_off12 k0_t1 (BitVec.ofNat 32 0)) := ⟨![64 * (k0_t1.val % 4) + 16 * 0, 128], k0_off12_eq k0_t1 ⟨0, by decide⟩⟩
instance closedOff_k0_off12_1 (k0_t1 : Fin k0_t1_loop.trips) : ClosedOff (k0_off12 k0_t1 (BitVec.ofNat 32 16)) := ⟨![64 * (k0_t1.val % 4) + 16 * 1, 128], k0_off12_eq k0_t1 ⟨1, by decide⟩⟩
instance closedOff_k0_off12_2 (k0_t1 : Fin k0_t1_loop.trips) : ClosedOff (k0_off12 k0_t1 (BitVec.ofNat 32 32)) := ⟨![64 * (k0_t1.val % 4) + 16 * 2, 128], k0_off12_eq k0_t1 ⟨2, by decide⟩⟩
instance closedOff_k0_off12_3 (k0_t1 : Fin k0_t1_loop.trips) : ClosedOff (k0_off12 k0_t1 (BitVec.ofNat 32 48)) := ⟨![64 * (k0_t1.val % 4) + 16 * 3, 128], k0_off12_eq k0_t1 ⟨3, by decide⟩⟩

end Cert.Kernel.Gen

end
-- ==== Proof.Kernel.Loop.lean ====
/- The quantising loop of `Kernel` as a frame obligation: whatever the four buffers it writes hold before a trip, one
   trip runs and leaves them holding something. Nothing of the contents is named. -/
module

public import proofs.«01_k».proof.Proof.Gen.Kernel.Loops
public import proofs.«01_k».proof.Proof.Kernel.Off
public import Idealize.ShloMosaic.Lib.Pipeline.Kit

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- One trip at a symbolic `k`, from any contents of the written buffers to some contents. -/
theorem trip_frame (𝒱 : Variants) (c : Dev nD) (bd : Option 𝒱.V) (E : Set ℕ) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x512 .i32) (harg17 : arg17.IsWhole) (arg18 : Memref sig .tc .vmem S3072x512 .bf16) (harg18 : arg18.IsWhole) (v0 : Elt F .f32) (k0_h1 : k0_cond1 i = 1#1) (X_arg1 : BufTy.Contents (Elt F) arg1.view.ty) (X_arg2 : BufTy.Contents (Elt F) arg2.view.ty) (k : Fin k0_t1_loop.trips) (f_arg11 : BufTy.Contents (Elt F) arg11.view.ty) (f_arg13 : BufTy.Contents (Elt F) arg13.view.ty) (f_arg14 : BufTy.Contents (Elt F) arg14.view.ty) (f_arg16 : BufTy.Contents (Elt F) arg16.view.ty) :
    (iprop((arg1.view.loc (c : Thread nD τ) ↦[arg1.view.set]{fullShare} X_arg1) ∗ (arg2.view.loc (c : Thread nD τ) ↦[arg2.view.set]{fullShare} X_arg2) ∗ (arg11.view.loc (c : Thread nD τ) ↦[arg11.view.set]{fullShare} f_arg11) ∗ (arg13.view.loc (c : Thread nD τ) ↦[arg13.view.set]{fullShare} f_arg13) ∗ (arg14.view.loc (c : Thread nD τ) ↦[arg14.view.set]{fullShare} f_arg14) ∗ (arg16.view.loc (c : Thread nD τ) ↦[arg16.view.set]{fullShare} f_arg16)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 k PUnit.unit)
          (fun _ => iprop((arg1.view.loc (c : Thread nD τ) ↦[arg1.view.set]{fullShare} X_arg1) ∗ (arg2.view.loc (c : Thread nD τ) ↦[arg2.view.set]{fullShare} X_arg2) ∗ (∃ f, (arg11.view.loc (c : Thread nD τ) ↦[arg11.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg16.view.loc (c : Thread nD τ) ↦[arg16.view.set]{fullShare} f)))) := by
  have hk : k.val < 24 := Nat.lt_of_lt_of_le k.isLt k0_t1_abs.2.1
  unfold k0_t1_body
  iintro ⟨HR_arg1, HR_arg2, HW_arg11, HW_arg13, HW_arg14, HW_arg16⟩
  sl_exec
  sl_step
  isplitl [HR_arg1]; · iexact HR_arg1
  isplitl [HR_arg2]; · iexact HR_arg2
  isplitl [HW_arg11]; · iexists _; iexact HW_arg11
  isplitl [HW_arg13]; · iexists _; iexact HW_arg13
  isplitl [HW_arg14]; · iexists _; iexact HW_arg14
  iexists _; iexact HW_arg16

set_option warn.classDefReducibility false in
/-- The loop by its invariant: the inputs as they were, the written buffers at some contents. -/
@[sl_loop] def loopInv_k0_t1 (𝒱 : Variants) (c : Dev nD) (bd : Option 𝒱.V) (E : Set ℕ) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x512 .i32) (harg17 : arg17.IsWhole) (arg18 : Memref sig .tc .vmem S3072x512 .bf16) (harg18 : arg18.IsWhole) (v0 : Elt F .f32) (k0_h1 : k0_cond1 i = 1#1) (X_arg1 : BufTy.Contents (Elt F) arg1.view.ty) (X_arg2 : BufTy.Contents (Elt F) arg2.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 where
  inv := fun _ _ => iprop((arg1.view.loc (c : Thread nD τ) ↦[arg1.view.set]{fullShare} X_arg1) ∗ (arg2.view.loc (c : Thread nD τ) ↦[arg2.view.set]{fullShare} X_arg2) ∗ (∃ f, (arg11.view.loc (c : Thread nD τ) ↦[arg11.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg16.view.loc (c : Thread nD τ) ↦[arg16.view.set]{fullShare} f)))
  step k acc := by
    iintro ⟨HR_arg1, HR_arg2, ⟨%f_arg11, HW_arg11⟩, ⟨%f_arg13, HW_arg13⟩, ⟨%f_arg14, HW_arg14⟩, ⟨%f_arg16, HW_arg16⟩⟩
    iapply (trip_frame (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 k f_arg11 f_arg13 f_arg14 f_arg16)
    isplitl [HR_arg1]; · iexact HR_arg1
    isplitl [HR_arg2]; · iexact HR_arg2
    isplitl [HW_arg11]; · iexact HW_arg11
    isplitl [HW_arg13]; · iexact HW_arg13
    isplitl [HW_arg14]; · iexact HW_arg14
    iexact HW_arg16

end Cert.Kernel.Gen

end
-- ==== Proof.Kernel.Cond.lean ====
/- What the runs of `Kernel` share: when the grid point is the first, which windows are never idle, and the staging and
   scratch memrefs of a point. -/
module

public import proofs.«01_k».proof.Proof.Gen.Kernel.Frame
public import proofs.«01_k».proof.Proof.Gen.Kernel.Skeleton
public import proofs.«01_k».proof.Proof.Kernel.Loop
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates . -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3072x32 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1536 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x192 .fp8e4m3 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S256x3072 .bf16 := Memref.whole cc0_scratch0
abbrev scM0_1 : Memref sig .tc .vmem S256x3072 .bf16 := Memref.whole cc0_scratch1
abbrev scM0_2 : Memref sig .tc .vmem S256x32 .bf16 := Memref.whole cc0_scratch2
abbrev scM0_3 : Memref sig .tc .vmem S256x256 .f32 := Memref.whole cc0_scratch3
abbrev scM0_4 : Memref sig .tc .vmem S192x512 .i32 := Memref.whole cc0_scratch4
abbrev scM0_5 : Memref sig .tc .vmem S3072x512 .bf16 := Memref.whole cc0_scratch5
/-- The launch's scoped buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.Kernel.RunA.lean ====
/- The body of `Kernel` run whole at the first grid point, where the activations are quantised: from the inputs' blocks and anything in
   the other buffers to the same inputs and something in the others. -/
module

public import proofs.«01_k».proof.Proof.Kernel.Cond

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4016000 in
/-- The body runs: the inputs end as they were, nothing is said of the buffers it writes. -/
theorem kernelRun0_A (c : Dev nD) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x512 .i32) (harg17 : arg17.IsWhole) (arg18 : Memref sig .tc .vmem S3072x512 .bf16) (harg18 : arg18.IsWhole) (hc0 : cond0_0 i)
    (x0 : Vec F S256x3072 .bf16) (x1 : Vec F S1x3072 .f32) (x2 : Vec F S1 .f32) (x3 : Vec F S1536x512 .i8) (x4 : Vec F S192x512 .fp8e4m3) (x5 : Vec F S1 .f32) (x6 : Vec F S3072x32 .bf16) (x7 : Vec F S32x512 .bf16) (x8 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_svdquant_nvfp4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_svdquant_nvfp4_eq_skeleton]; unfold cc0_svdquant_nvfp4_skel
  simp only [k0_part108_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexists _, _; isplitr; swap; · iexact HS5
  ipureintro; rfl

end Cert.Kernel.Gen

end
-- ==== Proof.Kernel.RunB.lean ====
/- The body of `Kernel` run whole at every later grid point: from the inputs' blocks and anything in
   the other buffers to the same inputs and something in the others. -/
module

public import proofs.«01_k».proof.Proof.Kernel.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4016000 in
/-- The body runs: the inputs end as they were, nothing is said of the buffers it writes. -/
theorem kernelRun0_B (c : Dev nD) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x512 .i32) (harg17 : arg17.IsWhole) (arg18 : Memref sig .tc .vmem S3072x512 .bf16) (harg18 : arg18.IsWhole) (hc0 : ¬cond0_0 i)
    (x0 : Vec F S256x3072 .bf16) (x1 : Vec F S1x3072 .f32) (x2 : Vec F S1 .f32) (x3 : Vec F S1536x512 .i8) (x4 : Vec F S192x512 .fp8e4m3) (x5 : Vec F S1 .f32) (x6 : Vec F S3072x32 .bf16) (x7 : Vec F S32x512 .bf16) (x8 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_svdquant_nvfp4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_svdquant_nvfp4_eq_skeleton]; unfold cc0_svdquant_nvfp4_skel
  simp only [k0_part108_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexists _, _; isplitr; swap; · iexact HS5
  ipureintro; rfl

end Cert.Kernel.Gen

end
-- ==== Proof.Kernel.Frame.lean ====
/- The frame of `Kernel`: the kernel runs, its arguments end unchanged, every counter ends at zero. The outputs are
   forgotten: nothing is named of what the kernel leaves in them. -/
module

public import proofs.«01_k».proof.Proof.Kernel.RunB
public import Idealize.ShloMosaic.Lib.Pipeline.FrameBody
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- The argument arrays end unchanged, from a run whose outputs are forgotten. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 6 rfl).trans ((hA c 6).trans (V_main_arg6 m c)),
      (Pipeline.RDat.FramePost.arr_in h c 7 rfl).trans ((hA c 7).trans (V_main_arg7 m c)),
      ((h c).2 main_arg8 (Pipeline.mem_restRefs_of main_arg8 (by decide) (by decide))).trans (V_main_arg8 m c)⟩) h

/-! ## The pipeline's proof data -/

/-- The output windows this certificate FORGETS (9, 10, 11): nothing reads what the kernel leaves in them, so nothing
    of it is named (Lib/Pipeline/Dat.lean `Dat.toRForget`). -/
def forgets0 : Fin 12 → Bool := fun w => w.val == 9 || w.val == 10 || w.val == 11

/-- The proof data of the one pipeline on core `c`: the arrays as the region finds them (`V`); after the body at
    point `t` each input's buffer at its block and the outputs, FORGOTTEN, at `Dat.unnamed`; the invariant the class's (`ΦA`: every
    scratch at anything);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 12800000 in
/-- The body at any point: the inputs hold their blocks, and the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases h0 : t.val % 24 = 0
  · iapply (kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iapply (kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_forget m ρ (fun c => (dats m 0 c).toRForget forgets0) (A_eq m) (run_main m ρ)

/-- The run terminates, the argument arrays end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Gen

end
-- ==== Proof.KernelIdeal.Off.lean ====
/- Closed forms of the offsets the quantising loop of `KernelIdeal` computes from its trip number: trip `k` works on the
   64-row block `k % 4` and the column tile `k / 4`. The instances let the symbolic run place each access. -/
module

public import proofs.«01_k».proof.Proof.Gen.KernelIdeal
public import Idealize.ShloMosaic.Lib.Exec
public import Idealize.ShloMosaic.Lib.Tactic

@[expose] public section

noncomputable section

namespace Cert.KernelIdeal.Gen

open Idealize.ShloMosaic Idealize.ShloMosaic.Tactic

/-- `k0_off1` in closed form; use (`simp only [Gen.k0_off1_eq]`). -/
theorem k0_off1_eq : ∀ k0_t1 : Fin k0_t1_loop.trips, ∀ (r : Fin 4), k0_off1 k0_t1 (BitVec.ofNat 32 (16 * r.val)) = ![64 * (k0_t1.val % 4) + 16 * r.val, 256 * (k0_t1.val / 4)] := by decide +kernel
instance closedOff_k0_off1_0 (k0_t1 : Fin k0_t1_loop.trips) : ClosedOff (k0_off1 k0_t1 (BitVec.ofNat 32 0)) := ⟨![64 * (k0_t1.val % 4) + 16 * 0, 256 * (k0_t1.val / 4)], k0_off1_eq k0_t1 ⟨0, by decide⟩⟩
instance closedOff_k0_off1_1 (k0_t1 : Fin k0_t1_loop.trips) : ClosedOff (k0_off1 k0_t1 (BitVec.ofNat 32 16)) := ⟨![64 * (k0_t1.val % 4) + 16 * 1, 256 * (k0_t1.val / 4)], k0_off1_eq k0_t1 ⟨1, by decide⟩⟩
instance closedOff_k0_off1_2 (k0_t1 : Fin k0_t1_loop.trips) : ClosedOff (k0_off1 k0_t1 (BitVec.ofNat 32 32)) := ⟨![64 * (k0_t1.val % 4) + 16 * 2, 256 * (k0_t1.val / 4)], k0_off1_eq k0_t1 ⟨2, by decide⟩⟩
instance closedOff_k0_off1_3 (k0_t1 : Fin k0_t1_loop.trips) : ClosedOff (k0_off1 k0_t1 (BitVec.ofNat 32 48)) := ⟨![64 * (k0_t1.val % 4) + 16 * 3, 256 * (k0_t1.val / 4)], k0_off1_eq k0_t1 ⟨3, by decide⟩⟩
/-- `k0_off2` in closed form; use (`simp only [Gen.k0_off2_eq]`). -/
theorem k0_off2_eq : ∀ k0_t1 : Fin k0_t1_loop.trips, k0_off2 k0_t1 = ![0, 256 * (k0_t1.val / 4)] := by decide +kernel
instance closedOff_k0_off2 (k0_t1 : Fin k0_t1_loop.trips) : ClosedOff (k0_off2 k0_t1) := ⟨![0, 256 * (k0_t1.val / 4)], k0_off2_eq k0_t1⟩
/-- `k0_off3` in closed form; use (`simp only [Gen.k0_off3_eq]`). -/
theorem k0_off3_eq : ∀ k0_t1 : Fin k0_t1_loop.trips, ∀ (r : Fin 4), k0_off3 k0_t1 (BitVec.ofNat 32 (16 * r.val)) = ![64 * (k0_t1.val % 4) + 16 * r.val, 256 * (k0_t1.val / 4) + 128] := by decide +kernel
instance closedOff_k0_off3_0 (k0_t1 : Fin k0_t1_loop.trips) : ClosedOff (k0_off3 k0_t1 (BitVec.ofNat 32 0)) := ⟨![64 * (k0_t1.val % 4) + 16 * 0, 256 * (k0_t1.val / 4) + 128], k0_off3_eq k0_t1 ⟨0, by decide⟩⟩
instance closedOff_k0_off3_1 (k0_t1 : Fin k0_t1_loop.trips) : ClosedOff (k0_off3 k0_t1 (BitVec.ofNat 32 16)) := ⟨![64 * (k0_t1.val % 4) + 16 * 1, 256 * (k0_t1.val / 4) + 128], k0_off3_eq k0_t1 ⟨1, by decide⟩⟩
instance closedOff_k0_off3_2 (k0_t1 : Fin k0_t1_loop.trips) : ClosedOff (k0_off3 k0_t1 (BitVec.ofNat 32 32)) := ⟨![64 * (k0_t1.val % 4) + 16 * 2, 256 * (k0_t1.val / 4) + 128], k0_off3_eq k0_t1 ⟨2, by decide⟩⟩
instance closedOff_k0_off3_3 (k0_t1 : Fin k0_t1_loop.trips) : ClosedOff (k0_off3 k0_t1 (BitVec.ofNat 32 48)) := ⟨![64 * (k0_t1.val % 4) + 16 * 3, 256 * (k0_t1.val / 4) + 128], k0_off3_eq k0_t1 ⟨3, by decide⟩⟩
/-- `k0_off4` in closed form; use (`simp only [Gen.k0_off4_eq]`). -/
theorem k0_off4_eq : ∀ k0_t1 : Fin k0_t1_loop.trips, k0_off4 k0_t1 = ![0, 256 * (k0_t1.val / 4) + 128] := by decide +kernel
instance closedOff_k0_off4 (k0_t1 : Fin k0_t1_loop.trips) : ClosedOff (k0_off4 k0_t1) := ⟨![0, 256 * (k0_t1.val / 4) + 128], k0_off4_eq k0_t1⟩
/-- `k0_off5` in closed form; use (`simp only [Gen.k0_off5_eq]`). -/
theorem k0_off5_eq : ∀ k0_t1 : Fin k0_t1_loop.trips, ∀ (r : Fin 4), k0_off5 k0_t1 (BitVec.ofNat 32 (16 * r.val)) = ![64 * (k0_t1.val % 4) + 16 * r.val, 256 * (k0_t1.val / 4) + 1536] := by decide +kernel
instance closedOff_k0_off5_0 (k0_t1 : Fin k0_t1_loop.trips) : ClosedOff (k0_off5 k0_t1 (BitVec.ofNat 32 0)) := ⟨![64 * (k0_t1.val % 4) + 16 * 0, 256 * (k0_t1.val / 4) + 1536], k0_off5_eq k0_t1 ⟨0, by decide⟩⟩
instance closedOff_k0_off5_1 (k0_t1 : Fin k0_t1_loop.trips) : ClosedOff (k0_off5 k0_t1 (BitVec.ofNat 32 16)) := ⟨![64 * (k0_t1.val % 4) + 16 * 1, 256 * (k0_t1.val / 4) + 1536], k0_off5_eq k0_t1 ⟨1, by decide⟩⟩
instance closedOff_k0_off5_2 (k0_t1 : Fin k0_t1_loop.trips) : ClosedOff (k0_off5 k0_t1 (BitVec.ofNat 32 32)) := ⟨![64 * (k0_t1.val % 4) + 16 * 2, 256 * (k0_t1.val / 4) + 1536], k0_off5_eq k0_t1 ⟨2, by decide⟩⟩
instance closedOff_k0_off5_3 (k0_t1 : Fin k0_t1_loop.trips) : ClosedOff (k0_off5 k0_t1 (BitVec.ofNat 32 48)) := ⟨![64 * (k0_t1.val % 4) + 16 * 3, 256 * (k0_t1.val / 4) + 1536], k0_off5_eq k0_t1 ⟨3, by decide⟩⟩
/-- `k0_off6` in closed form; use (`simp only [Gen.k0_off6_eq]`). -/
theorem k0_off6_eq : ∀ k0_t1 : Fin k0_t1_loop.trips, k0_off6 k0_t1 = ![0, 256 * (k0_t1.val / 4) + 1536] := by decide +kernel
instance closedOff_k0_off6 (k0_t1 : Fin k0_t1_loop.trips) : ClosedOff (k0_off6 k0_t1) := ⟨![0, 256 * (k0_t1.val / 4) + 1536], k0_off6_eq k0_t1⟩
/-- `k0_off7` in closed form; use (`simp only [Gen.k0_off7_eq]`). -/
theorem k0_off7_eq : ∀ k0_t1 : Fin k0_t1_loop.trips, ∀ (r : Fin 4), k0_off7 k0_t1 (BitVec.ofNat 32 (16 * r.val)) = ![64 * (k0_t1.val % 4) + 16 * r.val, 256 * (k0_t1.val / 4) + 1664] := by decide +kernel
instance closedOff_k0_off7_0 (k0_t1 : Fin k0_t1_loop.trips) : ClosedOff (k0_off7 k0_t1 (BitVec.ofNat 32 0)) := ⟨![64 * (k0_t1.val % 4) + 16 * 0, 256 * (k0_t1.val / 4) + 1664], k0_off7_eq k0_t1 ⟨0, by decide⟩⟩
instance closedOff_k0_off7_1 (k0_t1 : Fin k0_t1_loop.trips) : ClosedOff (k0_off7 k0_t1 (BitVec.ofNat 32 16)) := ⟨![64 * (k0_t1.val % 4) + 16 * 1, 256 * (k0_t1.val / 4) + 1664], k0_off7_eq k0_t1 ⟨1, by decide⟩⟩
instance closedOff_k0_off7_2 (k0_t1 : Fin k0_t1_loop.trips) : ClosedOff (k0_off7 k0_t1 (BitVec.ofNat 32 32)) := ⟨![64 * (k0_t1.val % 4) + 16 * 2, 256 * (k0_t1.val / 4) + 1664], k0_off7_eq k0_t1 ⟨2, by decide⟩⟩
instance closedOff_k0_off7_3 (k0_t1 : Fin k0_t1_loop.trips) : ClosedOff (k0_off7 k0_t1 (BitVec.ofNat 32 48)) := ⟨![64 * (k0_t1.val % 4) + 16 * 3, 256 * (k0_t1.val / 4) + 1664], k0_off7_eq k0_t1 ⟨3, by decide⟩⟩
/-- `k0_off8` in closed form; use (`simp only [Gen.k0_off8_eq]`). -/
theorem k0_off8_eq : ∀ k0_t1 : Fin k0_t1_loop.trips, k0_off8 k0_t1 = ![0, 256 * (k0_t1.val / 4) + 1664] := by decide +kernel
instance closedOff_k0_off8 (k0_t1 : Fin k0_t1_loop.trips) : ClosedOff (k0_off8 k0_t1) := ⟨![0, 256 * (k0_t1.val / 4) + 1664], k0_off8_eq k0_t1⟩
/-- `k0_off9` in closed form; use (`simp only [Gen.k0_off9_eq]`). -/
theorem k0_off9_eq : ∀ k0_t1 : Fin k0_t1_loop.trips, ∀ (r : Fin 2), k0_off9 k0_t1 (BitVec.ofNat 32 (32 * r.val)) = ![64 * (k0_t1.val % 4) + 32 * r.val, 256 * (k0_t1.val / 4)] := by decide +kernel
instance closedOff_k0_off9_0 (k0_t1 : Fin k0_t1_loop.trips) : ClosedOff (k0_off9 k0_t1 (BitVec.ofNat 32 0)) := ⟨![64 * (k0_t1.val % 4) + 32 * 0, 256 * (k0_t1.val / 4)], k0_off9_eq k0_t1 ⟨0, by decide⟩⟩
instance closedOff_k0_off9_1 (k0_t1 : Fin k0_t1_loop.trips) : ClosedOff (k0_off9 k0_t1 (BitVec.ofNat 32 32)) := ⟨![64 * (k0_t1.val % 4) + 32 * 1, 256 * (k0_t1.val / 4)], k0_off9_eq k0_t1 ⟨1, by decide⟩⟩
/-- `k0_off10` in closed form; use (`simp only [Gen.k0_off10_eq]`). -/
theorem k0_off10_eq : ∀ k0_t1 : Fin k0_t1_loop.trips, ∀ (r : Fin 2), k0_off10 k0_t1 (BitVec.ofNat 32 (32 * r.val)) = ![64 * (k0_t1.val % 4) + 32 * r.val, 256 * (k0_t1.val / 4) + 128] := by decide +kernel
instance closedOff_k0_off10_0 (k0_t1 : Fin k0_t1_loop.trips) : ClosedOff (k0_off10 k0_t1 (BitVec.ofNat 32 0)) := ⟨![64 * (k0_t1.val % 4) + 32 * 0, 256 * (k0_t1.val / 4) + 128], k0_off10_eq k0_t1 ⟨0, by decide⟩⟩
instance closedOff_k0_off10_1 (k0_t1 : Fin k0_t1_loop.trips) : ClosedOff (k0_off10 k0_t1 (BitVec.ofNat 32 32)) := ⟨![64 * (k0_t1.val % 4) + 32 * 1, 256 * (k0_t1.val / 4) + 128], k0_off10_eq k0_t1 ⟨1, by decide⟩⟩
/-- `k0_off11` in closed form; use (`simp only [Gen.k0_off11_eq]`). -/
theorem k0_off11_eq : ∀ k0_t1 : Fin k0_t1_loop.trips, ∀ (r : Fin 4), k0_off11 k0_t1 (BitVec.ofNat 32 (16 * r.val)) = ![64 * (k0_t1.val % 4) + 16 * r.val, 0] := by decide +kernel
instance closedOff_k0_off11_0 (k0_t1 : Fin k0_t1_loop.trips) : ClosedOff (k0_off11 k0_t1 (BitVec.ofNat 32 0)) := ⟨![64 * (k0_t1.val % 4) + 16 * 0, 0], k0_off11_eq k0_t1 ⟨0, by decide⟩⟩
instance closedOff_k0_off11_1 (k0_t1 : Fin k0_t1_loop.trips) : ClosedOff (k0_off11 k0_t1 (BitVec.ofNat 32 16)) := ⟨![64 * (k0_t1.val % 4) + 16 * 1, 0], k0_off11_eq k0_t1 ⟨1, by decide⟩⟩
instance closedOff_k0_off11_2 (k0_t1 : Fin k0_t1_loop.trips) : ClosedOff (k0_off11 k0_t1 (BitVec.ofNat 32 32)) := ⟨![64 * (k0_t1.val % 4) + 16 * 2, 0], k0_off11_eq k0_t1 ⟨2, by decide⟩⟩
instance closedOff_k0_off11_3 (k0_t1 : Fin k0_t1_loop.trips) : ClosedOff (k0_off11 k0_t1 (BitVec.ofNat 32 48)) := ⟨![64 * (k0_t1.val % 4) + 16 * 3, 0], k0_off11_eq k0_t1 ⟨3, by decide⟩⟩
/-- `k0_off12` in closed form; use (`simp only [Gen.k0_off12_eq]`). -/
theorem k0_off12_eq : ∀ k0_t1 : Fin k0_t1_loop.trips, ∀ (r : Fin 4), k0_off12 k0_t1 (BitVec.ofNat 32 (16 * r.val)) = ![64 * (k0_t1.val % 4) + 16 * r.val, 128] := by decide +kernel
instance closedOff_k0_off12_0 (k0_t1 : Fin k0_t1_loop.trips) : ClosedOff (k0_off12 k0_t1 (BitVec.ofNat 32 0)) := ⟨![64 * (k0_t1.val % 4) + 16 * 0, 128], k0_off12_eq k0_t1 ⟨0, by decide⟩⟩
instance closedOff_k0_off12_1 (k0_t1 : Fin k0_t1_loop.trips) : ClosedOff (k0_off12 k0_t1 (BitVec.ofNat 32 16)) := ⟨![64 * (k0_t1.val % 4) + 16 * 1, 128], k0_off12_eq k0_t1 ⟨1, by decide⟩⟩
instance closedOff_k0_off12_2 (k0_t1 : Fin k0_t1_loop.trips) : ClosedOff (k0_off12 k0_t1 (BitVec.ofNat 32 32)) := ⟨![64 * (k0_t1.val % 4) + 16 * 2, 128], k0_off12_eq k0_t1 ⟨2, by decide⟩⟩
instance closedOff_k0_off12_3 (k0_t1 : Fin k0_t1_loop.trips) : ClosedOff (k0_off12 k0_t1 (BitVec.ofNat 32 48)) := ⟨![64 * (k0_t1.val % 4) + 16 * 3, 128], k0_off12_eq k0_t1 ⟨3, by decide⟩⟩

end Cert.KernelIdeal.Gen

end
-- ==== Proof.Value.Loops.lean ====
/- The quantising loop of the idealized kernel, with the contents it writes: the pieces one trip stores into the four
   buffers, the pieces of all the trips before `k`, and the loop's invariant over them. -/
module

public import proofs.«01_k».proof.Proof.Gen.KernelIdeal.Loops
public import proofs.«01_k».proof.Proof.KernelIdeal.Off
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
/-! ## `cc0_svdquant_nvfp4` -/

/-- One trip's resources: what the region reads (arg1, arg2) at its contents, what it writes (arg11,
   arg13, arg14, arg16) at any. -/
abbrev Trip_k0_t1 (c : Dev nD) (arg1 : Memref sig .tc .vmem S256x3072 .bf16) (arg2 : Memref sig .tc .vmem S1x3072 .f32) (arg11 : Memref sig .tc .vmem S256x1536 .i8) (arg13 : Memref sig .tc .vmem S256x3072 .bf16) (arg14 : Memref sig .tc .vmem S256x3072 .bf16) (arg16 : Memref sig .tc .vmem S256x256 .f32) (X_arg1 : BufTy.Contents (Elt F) arg1.view.ty) (X_arg2 : BufTy.Contents (Elt F) arg2.view.ty) (f_arg11 : BufTy.Contents (Elt F) arg11.view.ty) (f_arg13 : BufTy.Contents (Elt F) arg13.view.ty) (f_arg14 : BufTy.Contents (Elt F) arg14.view.ty) (f_arg16 : BufTy.Contents (Elt F) arg16.view.ty) : sProp 𝕄G :=
  iprop((arg1.view.loc (c : Thread nD τ) ↦[arg1.view.set]{fullShare} X_arg1) ∗ (arg2.view.loc (c : Thread nD τ) ↦[arg2.view.set]{fullShare} X_arg2) ∗ (arg11.view.loc (c : Thread nD τ) ↦[arg11.view.set]{fullShare} f_arg11) ∗ (arg13.view.loc (c : Thread nD τ) ↦[arg13.view.set]{fullShare} f_arg13) ∗ (arg14.view.loc (c : Thread nD τ) ↦[arg14.view.set]{fullShare} f_arg14) ∗ (arg16.view.loc (c : Thread nD τ) ↦[arg16.view.set]{fullShare} f_arg16))

/-- One trip of `k0_t1_loop` at a symbolic `k`, run by `sl_exec` (its rectangles where the program's
   in-range evidence puts them, their places unread): the pieces it writes into arg11, arg13, arg14,
   arg16 are the run's own finds — the witnesses `sl_close` assigns handing the buffers to the
   continuation, as functions of the contents the trip finds in the memrefs it writes (the region
   loads some of them back). `@[irreducible]`: cited, never unfolded. -/
@[irreducible] def trip_k0_t1 (𝒱 : Variants) (c : Dev nD) (bd : Option 𝒱.V) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x2x512 .bf16) (harg17 : arg17.IsWhole) (arg18 : Memref sig .tc .vmem S3072x512 .bf16) (harg18 : arg18.IsWhole) (v0 : Elt F .f32) (k0_h1 : k0_cond1 i = 1#1) (X_arg1 : BufTy.Contents (Elt F) arg1.view.ty) (X_arg2 : BufTy.Contents (Elt F) arg2.view.ty) (k : Fin k0_t1_loop.trips) :
    Σ' (L_arg11 : (BufTy.Contents (Elt F) arg11.view.ty → BufTy.Contents (Elt F) arg13.view.ty → BufTy.Contents (Elt F) arg14.view.ty → BufTy.Contents (Elt F) arg16.view.ty → List (View.Piece (Elt F) S256x1536 .i8))) (L_arg13 : (BufTy.Contents (Elt F) arg11.view.ty → BufTy.Contents (Elt F) arg13.view.ty → BufTy.Contents (Elt F) arg14.view.ty → BufTy.Contents (Elt F) arg16.view.ty → List (View.Piece (Elt F) S256x3072 .bf16))) (L_arg14 : (BufTy.Contents (Elt F) arg11.view.ty → BufTy.Contents (Elt F) arg13.view.ty → BufTy.Contents (Elt F) arg14.view.ty → BufTy.Contents (Elt F) arg16.view.ty → List (View.Piece (Elt F) S256x3072 .bf16))) , { L_arg16 : (BufTy.Contents (Elt F) arg11.view.ty → BufTy.Contents (Elt F) arg13.view.ty → BufTy.Contents (Elt F) arg14.view.ty → BufTy.Contents (Elt F) arg16.view.ty → List (View.Piece (Elt F) S256x256 .f32)) // ∀ (E : Set ℕ) (f_arg11 : BufTy.Contents (Elt F) arg11.view.ty) (f_arg13 : BufTy.Contents (Elt F) arg13.view.ty) (f_arg14 : BufTy.Contents (Elt F) arg14.view.ty) (f_arg16 : BufTy.Contents (Elt F) arg16.view.ty),
      Trip_k0_t1 (F := F) c arg1 arg2 arg11 arg13 arg14 arg16 X_arg1 X_arg2 f_arg11 f_arg13 f_arg14 f_arg16
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 k PUnit.unit)
          (fun _ => Trip_k0_t1 (F := F) c arg1 arg2 arg11 arg13 arg14 arg16 X_arg1 X_arg2 (arg11.view.writes (Elt F) f_arg11 (L_arg11 f_arg11 f_arg13 f_arg14 f_arg16)) (arg13.view.writes (Elt F) f_arg13 (L_arg13 f_arg11 f_arg13 f_arg14 f_arg16)) (arg14.view.writes (Elt F) f_arg14 (L_arg14 f_arg11 f_arg13 f_arg14 f_arg16)) (arg16.view.writes (Elt F) f_arg16 (L_arg16 f_arg11 f_arg13 f_arg14 f_arg16))) } := by
  have hk : k.val < 24 := Nat.lt_of_lt_of_le k.isLt k0_t1_abs.2.1
  refine ⟨?_, ?_, ?_, ?_, fun E f_arg11 f_arg13 f_arg14 f_arg16 => ?run⟩
  case run =>
    unfold k0_t1_body
    iintro ⟨HR_arg1, HR_arg2, HW_arg11, HW_arg13, HW_arg14, HW_arg16⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x2x512 .bf16) (harg17 : arg17.IsWhole) (arg18 : Memref sig .tc .vmem S3072x512 .bf16) (harg18 : arg18.IsWhole) (v0 : Elt F .f32) (k0_h1 : k0_cond1 i = 1#1) (X_arg1 : BufTy.Contents (Elt F) arg1.view.ty) (X_arg2 : BufTy.Contents (Elt F) arg2.view.ty) (k : Fin k0_t1_loop.trips) (f_arg11 : BufTy.Contents (Elt F) arg11.view.ty) (f_arg13 : BufTy.Contents (Elt F) arg13.view.ty) (f_arg14 : BufTy.Contents (Elt F) arg14.view.ty) (f_arg16 : BufTy.Contents (Elt F) arg16.view.ty) : List (View.Piece (Elt F) S256x1536 .i8) × List (View.Piece (Elt F) S256x3072 .bf16) × List (View.Piece (Elt F) S256x3072 .bf16) × List (View.Piece (Elt F) S256x256 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 k).1 f_arg11 f_arg13 f_arg14 f_arg16, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 k).2.1 f_arg11 f_arg13 f_arg14 f_arg16, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 k).2.2.1 f_arg11 f_arg13 f_arg14 f_arg16, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 k).2.2.2.1 f_arg11 f_arg13 f_arg14 f_arg16)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x2x512 .bf16) (harg17 : arg17.IsWhole) (arg18 : Memref sig .tc .vmem S3072x512 .bf16) (harg18 : arg18.IsWhole) (v0 : Elt F .f32) (k0_h1 : k0_cond1 i = 1#1) (X_arg1 : BufTy.Contents (Elt F) arg1.view.ty) (X_arg2 : BufTy.Contents (Elt F) arg2.view.ty) (G_arg11 : BufTy.Contents (Elt F) arg11.view.ty) (G_arg13 : BufTy.Contents (Elt F) arg13.view.ty) (G_arg14 : BufTy.Contents (Elt F) arg14.view.ty) (G_arg16 : BufTy.Contents (Elt F) arg16.view.ty) (k : ℕ) (prev : List (View.Piece (Elt F) S256x1536 .i8) × List (View.Piece (Elt F) S256x3072 .bf16) × List (View.Piece (Elt F) S256x3072 .bf16) × List (View.Piece (Elt F) S256x256 .f32)) : List (View.Piece (Elt F) S256x1536 .i8) × List (View.Piece (Elt F) S256x3072 .bf16) × List (View.Piece (Elt F) S256x3072 .bf16) × List (View.Piece (Elt F) S256x256 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 ⟨k, h⟩ (arg11.view.writes (Elt F) G_arg11 prev.1) (arg13.view.writes (Elt F) G_arg13 prev.2.1) (arg14.view.writes (Elt F) G_arg14 prev.2.2.1) (arg16.view.writes (Elt F) G_arg16 prev.2.2.2)).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 ⟨k, h⟩ (arg11.view.writes (Elt F) G_arg11 prev.1) (arg13.view.writes (Elt F) G_arg13 prev.2.1) (arg14.view.writes (Elt F) G_arg14 prev.2.2.1) (arg16.view.writes (Elt F) G_arg16 prev.2.2.2)).2.1 ++ prev.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 ⟨k, h⟩ (arg11.view.writes (Elt F) G_arg11 prev.1) (arg13.view.writes (Elt F) G_arg13 prev.2.1) (arg14.view.writes (Elt F) G_arg14 prev.2.2.1) (arg16.view.writes (Elt F) G_arg16 prev.2.2.2)).2.2.1 ++ prev.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 ⟨k, h⟩ (arg11.view.writes (Elt F) G_arg11 prev.1) (arg13.view.writes (Elt F) G_arg13 prev.2.1) (arg14.view.writes (Elt F) G_arg14 prev.2.2.1) (arg16.view.writes (Elt F) G_arg16 prev.2.2.2)).2.2.2 ++ prev.2.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x2x512 .bf16) (harg17 : arg17.IsWhole) (arg18 : Memref sig .tc .vmem S3072x512 .bf16) (harg18 : arg18.IsWhole) (v0 : Elt F .f32) (k0_h1 : k0_cond1 i = 1#1) (X_arg1 : BufTy.Contents (Elt F) arg1.view.ty) (X_arg2 : BufTy.Contents (Elt F) arg2.view.ty) (G_arg11 : BufTy.Contents (Elt F) arg11.view.ty) (G_arg13 : BufTy.Contents (Elt F) arg13.view.ty) (G_arg14 : BufTy.Contents (Elt F) arg14.view.ty) (G_arg16 : BufTy.Contents (Elt F) arg16.view.ty) : ℕ → List (View.Piece (Elt F) S256x1536 .i8) × List (View.Piece (Elt F) S256x3072 .bf16) × List (View.Piece (Elt F) S256x3072 .bf16) × List (View.Piece (Elt F) S256x256 .f32)
  | 0 => ([], [], [], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k)

theorem pb_k0_t1_succ (𝒱 : Variants) (c : Dev nD) (bd : Option 𝒱.V) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x2x512 .bf16) (harg17 : arg17.IsWhole) (arg18 : Memref sig .tc .vmem S3072x512 .bf16) (harg18 : arg18.IsWhole) (v0 : Elt F .f32) (k0_h1 : k0_cond1 i = 1#1) (X_arg1 : BufTy.Contents (Elt F) arg1.view.ty) (X_arg2 : BufTy.Contents (Elt F) arg2.view.ty) (G_arg11 : BufTy.Contents (Elt F) arg11.view.ty) (G_arg13 : BufTy.Contents (Elt F) arg13.view.ty) (G_arg14 : BufTy.Contents (Elt F) arg14.view.ty) (G_arg16 : BufTy.Contents (Elt F) arg16.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 k (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.2.2)).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 k (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.2.2)).2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 k (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.2.2)).2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 k (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.2.2)).2.2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k.val).2.2.2) := by
  rw [pb_k0_t1.eq_2]; unfold pb_k0_t1Step; exact dif_pos k.isLt

/-- The invariant before trip `k`: arg1, arg2 read at `X_·`; arg11, arg13, arg14, arg16 holding the
   pieces of the trips before `k` written over the contents at loop entry `G_·` (stated `∃ f, … ∗ ⌜f
   = …⌝`, so that a hypothesis of any contents matches and the equation is what is proved). -/
abbrev inv_k0_t1 (𝒱 : Variants) (c : Dev nD) (bd : Option 𝒱.V) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x2x512 .bf16) (harg17 : arg17.IsWhole) (arg18 : Memref sig .tc .vmem S3072x512 .bf16) (harg18 : arg18.IsWhole) (v0 : Elt F .f32) (k0_h1 : k0_cond1 i = 1#1) (X_arg1 : BufTy.Contents (Elt F) arg1.view.ty) (X_arg2 : BufTy.Contents (Elt F) arg2.view.ty) (G_arg11 : BufTy.Contents (Elt F) arg11.view.ty) (G_arg13 : BufTy.Contents (Elt F) arg13.view.ty) (G_arg14 : BufTy.Contents (Elt F) arg14.view.ty) (G_arg16 : BufTy.Contents (Elt F) arg16.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (∃ f, (arg11.view.loc (c : Thread nD τ) ↦[arg11.view.set]{fullShare} f) ∗ ⌜f = arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k).1⌝) ∗ (∃ f, (arg13.view.loc (c : Thread nD τ) ↦[arg13.view.set]{fullShare} f) ∗ ⌜f = arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k).2.1⌝) ∗ (∃ f, (arg14.view.loc (c : Thread nD τ) ↦[arg14.view.set]{fullShare} f) ∗ ⌜f = arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k).2.2.1⌝) ∗ (∃ f, (arg16.view.loc (c : Thread nD τ) ↦[arg16.view.set]{fullShare} f) ∗ ⌜f = arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16 k).2.2.2⌝))

set_option warn.classDefReducibility false in
/-- The loop by its invariant (after the loop each written memref holds `writes G (pb …
   trips)`). -/
@[sl_loop] def loopInv_k0_t1 (𝒱 : Variants) (c : Dev nD) (bd : Option 𝒱.V) (E : Set ℕ) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x2x512 .bf16) (harg17 : arg17.IsWhole) (arg18 : Memref sig .tc .vmem S3072x512 .bf16) (harg18 : arg18.IsWhole) (v0 : Elt F .f32) (k0_h1 : k0_cond1 i = 1#1) (X_arg1 : BufTy.Contents (Elt F) arg1.view.ty) (X_arg2 : BufTy.Contents (Elt F) arg2.view.ty) (G_arg11 : BufTy.Contents (Elt F) arg11.view.ty) (G_arg13 : BufTy.Contents (Elt F) arg13.view.ty) (G_arg14 : BufTy.Contents (Elt F) arg14.view.ty) (G_arg16 : BufTy.Contents (Elt F) arg16.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 G_arg11 G_arg13 G_arg14 G_arg16
  step k acc := by
    iintro ⟨HR_arg1, HR_arg2, ⟨%f_arg11, HW_arg11, %h_arg11⟩, ⟨%f_arg13, HW_arg13, %h_arg13⟩, ⟨%f_arg14, HW_arg14, %h_arg14⟩, ⟨%f_arg16, HW_arg16, %h_arg16⟩⟩
    iapply (wp_wand_r Idealize.ShloMosaic.frame (wpE (defs₀ (F := F)) 𝒱 (c : Thread nD τ) bd) E)
    isplitl [HR_arg1 HR_arg2 HW_arg11 HW_arg13 HW_arg14 HW_arg16]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 X_arg1 X_arg2 k).2.2.2.2 E f_arg11 f_arg13 f_arg14 f_arg16)
      isplitl [HR_arg1]; · iexact HR_arg1
      isplitl [HR_arg2]; · iexact HR_arg2
      isplitl [HW_arg11]; · iexact HW_arg11
      isplitl [HW_arg13]; · iexact HW_arg13
      isplitl [HW_arg14]; · iexact HW_arg14
      iexact HW_arg16
    · iintro %_ ⟨HR_arg1, HR_arg2, HW_arg11, HW_arg13, HW_arg14, HW_arg16⟩
      isplitl [HR_arg1]; · iexact HR_arg1
      isplitl [HR_arg2]; · iexact HR_arg2
      rw [pb_k0_t1_succ]
      isplitl [HW_arg11]
      · iexists _; isplitl [HW_arg11]; · iexact HW_arg11
        ipureintro; rw [h_arg11, h_arg13, h_arg14, h_arg16, ← View.writes_append]
      isplitl [HW_arg13]
      · iexists _; isplitl [HW_arg13]; · iexact HW_arg13
        ipureintro; rw [h_arg11, h_arg13, h_arg14, h_arg16, ← View.writes_append]
      isplitl [HW_arg14]
      · iexists _; isplitl [HW_arg14]; · iexact HW_arg14
        ipureintro; rw [h_arg11, h_arg13, h_arg14, h_arg16, ← View.writes_append]
      iexists _; isplitl [HW_arg16]; · iexact HW_arg16
      ipureintro; rw [h_arg11, h_arg13, h_arg14, h_arg16, ← View.writes_append]

end Cert.KernelIdeal.Gen

end
-- ==== Proof.Value.Cond.lean ====
/- What the runs of `KernelIdeal` share: when the grid point is the first, which windows are never idle, and the staging and
   scratch memrefs of a point. -/
module

public import proofs.«01_k».proof.Proof.Gen.KernelIdeal.Frame
public import proofs.«01_k».proof.Proof.Gen.KernelIdeal.Skeleton
public import proofs.«01_k».proof.Proof.Value.Loops
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates . -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-! ## The kernel body on any staging memrefs: a subtype the run finds -/

/-- One staging buffer of output window 9, through which its contents are stated (`View.read_writes_of_cover`: the
    choice does not matter). -/
abbrev VO0_9 : View sig .tc .vmem S256x512 .bf16 := (Memref.whole cc0_stg9_0 : Memref sig .tc .vmem S256x512 .bf16).view
/-- One staging buffer of output window 10, through which its contents are stated (`View.read_writes_of_cover`: the
    choice does not matter). -/
abbrev VO0_10 : View sig .tc .vmem S256x1536 .i8 := (Memref.whole cc0_stg10_0 : Memref sig .tc .vmem S256x1536 .i8).view
/-- One staging buffer of output window 11, through which its contents are stated (`View.read_writes_of_cover`: the
    choice does not matter). -/
abbrev VO0_11 : View sig .tc .vmem S256x192 .fp8e4m3 := (Memref.whole cc0_stg11_0 : Memref sig .tc .vmem S256x192 .fp8e4m3).view
/-- Each window's current staging memref at point `t`, spelled as the pipeline passes it (`bodyAt0`), and its wholeness. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3072x32 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1536 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x192 .fp8e4m3 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S256x3072 .bf16 := Memref.whole cc0_scratch0
abbrev scM0_1 : Memref sig .tc .vmem S256x3072 .bf16 := Memref.whole cc0_scratch1
abbrev scM0_2 : Memref sig .tc .vmem S256x32 .bf16 := Memref.whole cc0_scratch2
abbrev scM0_3 : Memref sig .tc .vmem S256x256 .f32 := Memref.whole cc0_scratch3
abbrev scM0_4 : Memref sig .tc .vmem S192x2x512 .bf16 := Memref.whole cc0_scratch4
abbrev scM0_5 : Memref sig .tc .vmem S3072x512 .bf16 := Memref.whole cc0_scratch5
/-- The scratch `arg13` the kernel carries between points, as a view: what it holds is stated through it. -/
abbrev VS0_0 : View sig .tc .vmem S256x3072 .bf16 := scM0_0.view
/-- The launch's scoped buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.Value.RunA.lean ====
/- The body of the idealized kernel run whole at the first grid point: the pieces it leaves in each buffer are the
   witness the symbolic run finds. -/
module

public import proofs.«01_k».proof.Proof.Value.Cond

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4108000 in
/-- From whole buffers at named contents, the body runs and leaves its pieces written over them. -/
noncomputable def kernelRun0_A (c : Dev nD) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x2x512 .bf16) (harg17 : arg17.IsWhole) (arg18 : Memref sig .tc .vmem S3072x512 .bf16) (harg18 : arg18.IsWhole) (hc0 : cond0_0 i)
    (x0 : Vec F S256x3072 .bf16) (x1 : Vec F S1x3072 .f32) (x2 : Vec F S1 .f32) (x3 : Vec F S1536x512 .i8) (x4 : Vec F S192x512 .fp8e4m3) (x5 : Vec F S1 .f32) (x6 : Vec F S3072x32 .bf16) (x7 : Vec F S32x512 .bf16) (x8 : Vec F S1x512 .f32) (d10 : Vec F S256x512 .bf16) (d11 : Vec F S256x1536 .i8) (d12 : Vec F S256x192 .fp8e4m3) (d13 : Vec F S256x3072 .bf16) (d14 : Vec F S256x3072 .bf16) (d15 : Vec F S256x32 .bf16) (d16 : Vec F S256x256 .f32) :
    Σ' (L10 : List (View.Piece (Elt F) S256x512 .bf16)), Σ' (L11 : List (View.Piece (Elt F) S256x1536 .i8)), Σ' (L12 : List (View.Piece (Elt F) S256x192 .fp8e4m3)), Σ' (L13 : List (View.Piece (Elt F) S256x3072 .bf16)), Σ' (L14 : List (View.Piece (Elt F) S256x3072 .bf16)), { L15 : List (View.Piece (Elt F) S256x32 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (arg10.view.loc (c : Thread nD τ) ↦[arg10.view.set]{fullShare} arg10.view.writes (Elt F) (harg10.unread d10) L10) ∗ (arg11.view.loc (c : Thread nD τ) ↦[arg11.view.set]{fullShare} arg11.view.writes (Elt F) (harg11.unread d11) L11) ∗ (arg12.view.loc (c : Thread nD τ) ↦[arg12.view.set]{fullShare} arg12.view.writes (Elt F) (harg12.unread d12) L12) ∗ (arg13.view.loc (c : Thread nD τ) ↦[arg13.view.set]{fullShare} arg13.view.writes (Elt F) (harg13.unread d13) L13) ∗ (arg14.view.loc (c : Thread nD τ) ↦[arg14.view.set]{fullShare} arg14.view.writes (Elt F) (harg14.unread d14) L14) ∗ (arg15.view.loc (c : Thread nD τ) ↦[arg15.view.set]{fullShare} arg15.view.writes (Elt F) (harg15.unread d15) L15) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_svdquant_nvfp4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0_svdquant_nvfp4_eq_skeleton]; unfold cc0_svdquant_nvfp4_skel
    simp only [k0_part117_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part118_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

end Cert.KernelIdeal.Gen

end
-- ==== Proof.Value.RunB.lean ====
/- The body of the idealized kernel run whole at a later grid point: the pieces it leaves in each buffer are the
   witness the symbolic run finds. -/
module

public import proofs.«01_k».proof.Proof.Value.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4108000 in
/-- From whole buffers at named contents, the body runs and leaves its pieces written over them. -/
noncomputable def kernelRun0_B (c : Dev nD) (i : grid0.Coords) (arg1 : Memref sig .tc .vmem S256x3072 .bf16) (harg1 : arg1.IsWhole) (arg2 : Memref sig .tc .vmem S1x3072 .f32) (harg2 : arg2.IsWhole) (arg3 : Memref sig .tc .smem S1 .f32) (harg3 : arg3.IsWhole) (arg4 : Memref sig .tc .vmem S1536x512 .i8) (harg4 : arg4.IsWhole) (arg5 : Memref sig .tc .vmem S192x512 .fp8e4m3) (harg5 : arg5.IsWhole) (arg6 : Memref sig .tc .smem S1 .f32) (harg6 : arg6.IsWhole) (arg7 : Memref sig .tc .vmem S3072x32 .bf16) (harg7 : arg7.IsWhole) (arg8 : Memref sig .tc .vmem S32x512 .bf16) (harg8 : arg8.IsWhole) (arg9 : Memref sig .tc .vmem S1x512 .f32) (harg9 : arg9.IsWhole) (arg10 : Memref sig .tc .vmem S256x512 .bf16) (harg10 : arg10.IsWhole) (arg11 : Memref sig .tc .vmem S256x1536 .i8) (harg11 : arg11.IsWhole) (arg12 : Memref sig .tc .vmem S256x192 .fp8e4m3) (harg12 : arg12.IsWhole) (arg13 : Memref sig .tc .vmem S256x3072 .bf16) (harg13 : arg13.IsWhole) (arg14 : Memref sig .tc .vmem S256x3072 .bf16) (harg14 : arg14.IsWhole) (arg15 : Memref sig .tc .vmem S256x32 .bf16) (harg15 : arg15.IsWhole) (arg16 : Memref sig .tc .vmem S256x256 .f32) (harg16 : arg16.IsWhole) (arg17 : Memref sig .tc .vmem S192x2x512 .bf16) (harg17 : arg17.IsWhole) (arg18 : Memref sig .tc .vmem S3072x512 .bf16) (harg18 : arg18.IsWhole) (hc0 : ¬cond0_0 i)
    (x0 : Vec F S256x3072 .bf16) (x1 : Vec F S1x3072 .f32) (x2 : Vec F S1 .f32) (x3 : Vec F S1536x512 .i8) (x4 : Vec F S192x512 .fp8e4m3) (x5 : Vec F S1 .f32) (x6 : Vec F S3072x32 .bf16) (x7 : Vec F S32x512 .bf16) (x8 : Vec F S1x512 .f32) (d10 : Vec F S256x512 .bf16) (d11 : Vec F S256x1536 .i8) (d12 : Vec F S256x192 .fp8e4m3) (d13 : Vec F S256x3072 .bf16) (d14 : Vec F S256x3072 .bf16) (d15 : Vec F S256x32 .bf16) (d16 : Vec F S256x256 .f32) :
    { L10 : List (View.Piece (Elt F) S256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (arg10.view.loc (c : Thread nD τ) ↦[arg10.view.set]{fullShare} arg10.view.writes (Elt F) (harg10.unread d10) L10) ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ (∃ d, owns (c : Thread nD τ) arg17 fullShare d) ∗ (∃ d, owns (c : Thread nD τ) arg18 fullShare d)) -∗ K ⟨⟩))
          ⊢ wp frame (wpE (defs₀ (F := F)) Variants.none c none) E (cc0_svdquant_nvfp4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_svdquant_nvfp4_eq_skeleton]; unfold cc0_svdquant_nvfp4_skel
    simp only [k0_part117_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part118_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    iexists _, _; isplitr; swap; · iexact H17
    ipureintro; rfl

end Cert.KernelIdeal.Gen

end
-- ==== Proof.Math.MergeMax.lean ====
/- The largest of a group of sixteen lanes, taken by merging sixteen tiles pairwise four times. -/
module

public import Idealize.ShloMosaic.Lib.Pointwise
public import Idealize.ShloMosaic.PureOps

@[expose] public section

noncomputable section

namespace Cert.Math

open Idealize.ShloMosaic

/-- The lane whose number differs from `L`'s in the bits of `d`. -/
def flip (d : BitVec 32) (L : Fin 128) : Fin 128 :=
  ⟨(BitVec.ofNat 32 L.val ^^^ d).toNat % 128, Nat.mod_lt _ (by decide)⟩

/-- Whether lane `L` has no bit of `d`. -/
def low (d : BitVec 32) (L : Fin 128) : Bool := (BitVec.ofNat 32 L.val &&& d) == 0#32

/-- Two rows merged: a lane takes the larger of its own and its flipped lane's entry, from the row its bit chooses. -/
def merge (d : BitVec 32) (a b : Fin 128 → EReal) : Fin 128 → EReal := fun L =>
  max (if low d L then a L else b L) (if low d (flip d L) then b (flip d L) else a (flip d L))

/-- Sixteen rows merged to one. -/
def tree (T : Fin 16 → Fin 128 → EReal) : Fin 128 → EReal :=
  have m8 (i j : Fin 16) := merge 8#32 (T i) (T j)
  merge 1#32
    (merge 2#32 (merge 4#32 (m8 0 8) (m8 4 12)) (merge 4#32 (m8 2 10) (m8 6 14)))
    (merge 2#32 (merge 4#32 (m8 1 9) (m8 5 13)) (merge 4#32 (m8 3 11) (m8 7 15)))

theorem low_flip : ∀ L : Fin 128,
    low 8#32 (flip 8#32 L) = !low 8#32 L ∧ low 4#32 (flip 4#32 L) = !low 4#32 L ∧ low 2#32 (flip 2#32 L) = !low 2#32 L ∧ low 1#32 (flip 1#32 L) = !low 1#32 L ∧
    low 8#32 (flip 4#32 L) = low 8#32 L ∧ low 8#32 (flip 2#32 L) = low 8#32 L ∧ low 8#32 (flip 1#32 L) = low 8#32 L ∧
    low 4#32 (flip 2#32 L) = low 4#32 L ∧ low 4#32 (flip 1#32 L) = low 4#32 L ∧ low 2#32 (flip 1#32 L) = low 2#32 L := by decide +kernel

/-- The lanes reached from `L` by flips. -/
def reach (L : Fin 128) : List (Fin 128) :=
  [L, flip 8#32 L, flip 4#32 L, flip 8#32 (flip 4#32 L), flip 2#32 L, flip 8#32 (flip 2#32 L), flip 4#32 (flip 2#32 L),
    flip 8#32 (flip 4#32 (flip 2#32 L)), flip 1#32 L, flip 8#32 (flip 1#32 L), flip 4#32 (flip 1#32 L),
    flip 8#32 (flip 4#32 (flip 1#32 L)), flip 2#32 (flip 1#32 L), flip 8#32 (flip 2#32 (flip 1#32 L)),
    flip 4#32 (flip 2#32 (flip 1#32 L)), flip 8#32 (flip 4#32 (flip 2#32 (flip 1#32 L)))]

theorem reach_group : ∀ L : Fin 128, ∀ x ∈ reach L, x.val / 16 = L.val / 16 := by decide +kernel

theorem group_reach : ∀ L : Fin 128, ∀ k : Fin 16, Fin.ofNat 128 (16 * (L.val / 16) + k.val) ∈ reach L := by decide +kernel

/-- The lanes of `L`'s group are those reached from it by flips. -/
theorem group_iff (L L' : Fin 128) : L'.val / 16 = L.val / 16 ↔ L' ∈ reach L := by
  refine ⟨fun h => ?_, reach_group L L'⟩
  have e : L' = Fin.ofNat 128 (16 * (L.val / 16) + (⟨L'.val % 16, Nat.mod_lt _ (by decide)⟩ : Fin 16).val) := by
    apply Fin.ext
    show L'.val = (16 * (L.val / 16) + L'.val % 16) % 128
    omega
  rw [e]
  exact group_reach L _

/-- A lane's last four bits. -/
theorem digit : ∀ L : Fin 128, (⟨L.val % 16, Nat.mod_lt _ (by decide)⟩ : Fin 16) =
    (if low 8#32 L then 0 else 8) + (if low 4#32 L then 0 else 4) + (if low 2#32 L then 0 else 2) + (if low 1#32 L then 0 else 1) := by
  decide +kernel

theorem tree_le (T : Fin 16 → Fin 128 → EReal) (L : Fin 128) (u : EReal) :
    tree T L ≤ u ↔ ∀ L' : Fin 128, L'.val / 16 = L.val / 16 → T ⟨L.val % 16, Nat.mod_lt _ (by decide)⟩ L' ≤ u := by
  have e8 (x) := (low_flip x).1
  have e4 (x) := (low_flip x).2.1
  have e2 (x) := (low_flip x).2.2.1
  have e1 (x) := (low_flip x).2.2.2.1
  have e84 (x) := (low_flip x).2.2.2.2.1
  have e82 (x) := (low_flip x).2.2.2.2.2.1
  have e81 (x) := (low_flip x).2.2.2.2.2.2.1
  have e42 (x) := (low_flip x).2.2.2.2.2.2.2.1
  have e41 (x) := (low_flip x).2.2.2.2.2.2.2.2.1
  have e21 (x) := (low_flip x).2.2.2.2.2.2.2.2.2
  rw [digit L]
  simp only [group_iff, reach, List.mem_cons, List.not_mem_nil, or_false, forall_eq_or_imp, forall_eq]
  rcases h8 : low 8#32 L <;> rcases h4 : low 4#32 L <;> rcases h2 : low 2#32 L <;> rcases h1 : low 1#32 L <;>
    (simp only [tree, merge, e8, e4, e2, e1, e84, e82, e81, e42, e41, e21, h8, h4, h2, h1, if_true, if_false,
       Bool.false_eq_true, Bool.not_true, Bool.not_false, max_le_iff, and_assoc]
     exact Iff.rfl)

end Cert.Math
end
end
-- ==== Proof.Math.QuantTile.lean ====
/- A tile of the quantised activations: sixteen tiles give one tile of scales, by the largest magnitude of each group of
   sixteen lanes, and each tile is rounded to the four-bit grid at its groups' scales. -/
module

public import proofs.«01_k».proof.Proof.Math.MergeMax
public import proofs.«01_k».proof.Proof.Gen.KernelIdeal.Skeleton
public import Idealize.ShloMosaic.Lib.IdealHost

@[expose] public section

noncomputable section

namespace Cert.Math

open Idealize.ShloMosaic Cert.KernelIdeal Cert.KernelIdeal.Gen

/-- The lanes' numbers. -/
def lanes : IVec S16x128 32 := iota .tc S16x128 32 [1] iota_S16x128_d1_w32

/-- A lane number counted from the end if negative. -/
def wrap (v : IVec S16x128 32) : IVec S16x128 32 :=
  shapeCast S16x128 (shapeCast S16x128x1
    (select (cmpi .slt v (broadcast S16x128 0#32)) (addi v (broadcast S16x128 128#32)) v) shapeCasts_S16x128_S16x128x1)
    shapeCasts_S16x128x1_S16x128

/-- Two tiles merged at the bit `d` of the lane. -/
def mergeT (d : BitVec 32) (a b : FVec Ideal S16x128 .f32) : FVec Ideal S16x128 .f32 :=
  have k := cmpi .eq (andi lanes (broadcast S16x128 d)) (broadcast S16x128 0#32)
  maximumf (select k a b) (dynamicGather 1 (select k b a) (wrap (xori lanes (broadcast S16x128 d))))

/-- Sixteen tiles merged to one. -/
def treeT (T : Fin 16 → FVec Ideal S16x128 .f32) : FVec Ideal S16x128 .f32 :=
  have m8 (i j : Fin 16) := mergeT 8#32 (T i) (T j)
  mergeT 1#32
    (mergeT 2#32 (mergeT 4#32 (m8 0 8) (m8 4 12)) (mergeT 4#32 (m8 2 10) (m8 6 14)))
    (mergeT 2#32 (mergeT 4#32 (m8 1 9) (m8 5 13)) (mergeT 4#32 (m8 3 11) (m8 7 15)))

/-- The tile of raw scales. -/
def rawT (v0 : EReal) (T : Fin 16 → FVec Ideal S16x128 .f32) : FVec Ideal S16x128 .f32 :=
  divf (treeT fun i => absf (T i)) (broadcast S16x128 (Scalar.mulf (F := Ideal) (φ := .f32) (Scalar.ofBits .f32 0x40C00000#32) v0))

/-- The tile of scales. -/
def scaleT (w : FVec Ideal S16x128 .f32) : FVec Ideal S16x128 .f32 :=
  have s : FVec Ideal S16x128 .f32 := extf .f32 (truncf .fp8e4m3 (minimumf (broadcast S16x128 (Scalar.ofBits .f32 0x43E00000#32))
    (maximumf (broadcast S16x128 (Scalar.ofBits .f32 0x00000000#32)) w)) bitsLt_fp8e4m3_f32) bitsLt_fp8e4m3_f32
  select (cmpf .oeq s (broadcast S16x128 (Scalar.ofBits .f32 0x00000000#32))) (broadcast S16x128 (Scalar.ofBits .f32 0x3F800000#32)) s

/-- The lane of tile `i`'s entry of a lane's group. -/
def pick (i : BitVec 32) : IVec S16x128 32 := addi (andi lanes (broadcast S16x128 112#32)) (broadcast S16x128 i)

/-- A tile over its scales, held within six. -/
def ratioT (v0 : EReal) (w x : FVec Ideal S16x128 .f32) (i : BitVec 32) : FVec Ideal S16x128 .f32 :=
  minimumf (maximumf (mulf x (dynamicGather 1 (divf (broadcast S16x128 (Scalar.ofBits .f32 0x3F800000#32))
    (mulf (scaleT w) (broadcast S16x128 (v0 : Ideal .f32)))) (wrap (pick i)))) (broadcast S16x128 (Scalar.ofBits .f32 0xC0C00000#32)))
    (broadcast S16x128 (Scalar.ofBits .f32 0x40C00000#32))

/-- The grid's step at each ratio. -/
def stepT (t : FVec Ideal S16x128 .f32) : FVec Ideal S16x128 .f32 :=
  select (cmpf .olt (absf t) (broadcast S16x128 (Scalar.ofBits .f32 0x40000000#32))) (broadcast S16x128 (Scalar.ofBits .f32 0x3F000000#32))
    (select (cmpf .olt (absf t) (broadcast S16x128 (Scalar.ofBits .f32 0x40800000#32))) (broadcast S16x128 (Scalar.ofBits .f32 0x3F800000#32))
      (broadcast S16x128 (Scalar.ofBits .f32 0x40000000#32)))

/-- The ratio rounded to the grid. -/
def gridT (t : FVec Ideal S16x128 .f32) : FVec Ideal S16x128 .bf16 :=
  truncf .bf16 (addf (mulf (roundeven (divf t (stepT t))) (stepT t)) (broadcast S16x128 (Scalar.ofBits .f32 0x00000000#32))) bitsLt_bf16_f32

/-- The quantised tile, sixty-four times over. -/
def quantT (v0 : EReal) (w x : FVec Ideal S16x128 .f32) (i : BitVec 32) : FVec Ideal S16x128 .bf16 :=
  shapeCast S16x128 (mulf (gridT (ratioT v0 w x i))
    (truncf .bf16 (dynamicGather 1 (mulf (scaleT w) (broadcast S16x128 (Scalar.ofBits .f32 0x42800000#32))) (wrap (pick i))) bitsLt_bf16_f32))
    shapeCasts_S16x128_S16x128

/-- The step of one ratio. -/
def step (t : EReal) : EReal :=
  if max t (-t) < 2 then ((1 / 2 : ℝ) : EReal) else if max t (-t) < 4 then 1 else 2

/-- One ratio rounded to the grid. -/
def grid (t : EReal) : EReal := Ideal.liftRound Ideal.roundHalfEven (Ideal.div t (step t)) * step t

/-- One scale. -/
def scale (w : EReal) : EReal := if min 448 (max 0 w) = 0 then 1 else min 448 (max 0 w)

/-- One ratio held within six. -/
def hold (t : EReal) : EReal := min (max t (-6)) 6

theorem wrap_apply (v : IVec S16x128 32) (r : Fin 16) (l : Fin 128) (h : (v (ix2 r l)).toNat < 128) :
    wrap v (ix2 r l) = v (ix2 r l) := by
  have e : wrap v (ix2 r l) = Scalar.select (IntOp.cmpi .slt (v (ix2 r l)) 0#32) (IntOp.addi (v (ix2 r l)) 128#32) (v (ix2 r l)) := by
    pointwise [wrap]
  have hs : (v (ix2 r l)).slt 0#32 = false := by
    rw [BitVec.slt, BitVec.toInt_eq_toNat_of_lt (by omega)]
    simp
  rw [e, IntOp.cmpi]
  simp only [hs]
  rfl

theorem gather_apply (x : FVec Ideal S16x128 .f32) (v : IVec S16x128 32) (r : Fin 16) (l l' : Fin 128)
    (h : v (ix2 r l) = BitVec.ofNat 32 l'.val) : dynamicGather 1 x (wrap v) (ix2 r l) = x (ix2 r l') := by
  have hl : (BitVec.ofNat 32 l'.val).toNat = l'.val := by rw [BitVec.toNat_ofNat]; omega
  rw [dynamicGather_apply, wrap_apply v r l (by rw [h, hl]; exact l'.isLt), h]
  congr 1
  funext b
  match b with
  | ⟨0, _⟩ => rfl
  | ⟨1, _⟩ => exact Fin.ext (by show (BitVec.ofNat 32 l'.val).toNat % 128 = l'.val; rw [hl]; omega)

theorem lanes_apply (r : Fin 16) (l : Fin 128) : lanes (ix2 r l) = BitVec.ofNat 32 l.val := by
  pointwise [lanes]

theorem mergeT_apply (d : BitVec 32) (hd : ∀ l : Fin 128, BitVec.ofNat 32 l.val ^^^ d = BitVec.ofNat 32 (flip d l).val)
    (a b : FVec Ideal S16x128 .f32) (r : Fin 16) (l : Fin 128) :
    mergeT d a b (ix2 r l) = merge d (fun l => a (ix2 r l)) (fun l => b (ix2 r l)) l := by
  have hk : ∀ l, cmpi .eq (andi lanes (broadcast S16x128 d)) (broadcast S16x128 0#32) (ix2 r l) = BitVec.ofBool (low d l) := fun l => by
    show BitVec.ofBool ((lanes (ix2 r l) &&& d) == 0#32) = _
    rw [lanes_apply]; rfl
  have hs : ∀ (x y : FVec Ideal S16x128 .f32) l, select (cmpi .eq (andi lanes (broadcast S16x128 d)) (broadcast S16x128 0#32)) x y (ix2 r l)
      = if low d l then x (ix2 r l) else y (ix2 r l) := fun x y l => by
    rw [select, hk]; cases low d l <;> rfl
  show max (select _ a b (ix2 r l)) (dynamicGather 1 _ _ (ix2 r l)) = _
  rw [gather_apply _ _ r l (flip d l) (by show lanes (ix2 r l) ^^^ d = _; rw [lanes_apply, hd]), hs, hs]
  rfl

theorem treeT_apply (T : Fin 16 → FVec Ideal S16x128 .f32) (r : Fin 16) (l : Fin 128) :
    treeT T (ix2 r l) = tree (fun i l => T i (ix2 r l)) l := by
  have h8 := mergeT_apply 8#32 (by decide +kernel)
  have h4 := mergeT_apply 4#32 (by decide +kernel)
  have h2 := mergeT_apply 2#32 (by decide +kernel)
  have h1 := mergeT_apply 1#32 (by decide +kernel)
  simp only [treeT, tree, h1, h2, h4, h8]

/-- The largest of a lane's group of sixteen. -/
def top (f : Fin 128 → EReal) (l : Fin 128) : EReal :=
  Finset.univ.sup fun k : Fin 16 => f ⟨16 * (l.val / 16) + k.val, by omega⟩

/-- The lane of entry `i` of a lane's group. -/
def entry (i : Fin 16) (l : Fin 128) : Fin 128 := ⟨16 * (l.val / 16) + i.val, by omega⟩

theorem tree_entry (T : Fin 16 → Fin 128 → EReal) (i : Fin 16) (l : Fin 128) : tree T (entry i l) = top (T i) l := by
  apply eq_of_forall_ge_iff
  intro u
  rw [tree_le, top, Finset.sup_le_iff]
  have e1 : (⟨(entry i l).val % 16, Nat.mod_lt _ (by decide)⟩ : Fin 16) = i := Fin.ext (by show (16 * (l.val / 16) + i.val) % 16 = i.val; omega)
  have e2 : (entry i l).val / 16 = l.val / 16 := by show (16 * (l.val / 16) + i.val) / 16 = _; omega
  rw [e1, e2]
  refine ⟨fun h k _ => h _ (by show (16 * (l.val / 16) + k.val) / 16 = _; omega), fun h L' hL => ?_⟩
  have := h ⟨L'.val % 16, Nat.mod_lt _ (by decide)⟩ (Finset.mem_univ _)
  have e3 : (⟨16 * (l.val / 16) + L'.val % 16, by omega⟩ : Fin 128) = L' := Fin.ext (by show 16 * (l.val / 16) + L'.val % 16 = _; omega)
  rwa [e3] at this

theorem pick_apply (i : Fin 16) (r : Fin 16) (l : Fin 128) :
    pick (BitVec.ofNat 32 i.val) (ix2 r l) = BitVec.ofNat 32 (entry i l).val := by
  have h : ∀ (i : Fin 16) (l : Fin 128), (BitVec.ofNat 32 l.val &&& 112#32) + BitVec.ofNat 32 i.val = BitVec.ofNat 32 (entry i l).val := by
    decide +kernel
  show (lanes (ix2 r l) &&& 112#32) + BitVec.ofNat 32 i.val = _
  rw [lanes_apply, h]

theorem bits_448 : Ideal.ofBits .f32 0x43E00000#32 = (448 : EReal) := by
  rw [show (448 : EReal) = ((448 : ℝ) : EReal) by norm_cast]
  simp [Ideal.ofBits, Ideal.ieee, -EReal.coe_mul]; norm_num

theorem bits_64 : Ideal.ofBits .f32 0x42800000#32 = (64 : EReal) := by
  rw [show (64 : EReal) = ((64 : ℝ) : EReal) by norm_cast]
  simp [Ideal.ofBits, Ideal.ieee, -EReal.coe_mul]; norm_num

theorem bits_6 : Ideal.ofBits .f32 0x40C00000#32 = (6 : EReal) := by
  rw [show (6 : EReal) = ((6 : ℝ) : EReal) by norm_cast]
  simp [Ideal.ofBits, Ideal.ieee, -EReal.coe_mul]; norm_num

theorem bits_neg6 : Ideal.ofBits .f32 0xC0C00000#32 = (-6 : EReal) := by
  rw [show (-6 : EReal) = ((-6 : ℝ) : EReal) by rw [EReal.coe_neg]; rfl]
  simp [Ideal.ofBits, Ideal.ieee, -EReal.coe_mul, -EReal.coe_neg]; norm_num

theorem bits_4 : Ideal.ofBits .f32 0x40800000#32 = (4 : EReal) := by
  rw [show (4 : EReal) = ((4 : ℝ) : EReal) by norm_cast]
  simp [Ideal.ofBits, Ideal.ieee, -EReal.coe_mul]; norm_num

theorem bits_2 : Ideal.ofBits .f32 0x40000000#32 = (2 : EReal) := by
  rw [show (2 : EReal) = ((2 : ℝ) : EReal) by norm_cast]
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_1 : Ideal.ofBits .f32 0x3F800000#32 = (1 : EReal) := by
  rw [show (1 : EReal) = ((1 : ℝ) : EReal) by norm_cast]
  simp [Ideal.ofBits, Ideal.ieee, -EReal.coe_mul]; norm_num

theorem bits_0 : Ideal.ofBits .f32 0x00000000#32 = (0 : EReal) := by
  simp [Ideal.ofBits, Ideal.ieee]

theorem select_ofBool (b : Bool) (x y : EReal) : Scalar.select (BitVec.ofBool b) x y = if b then x else y := by
  cases b <;> rfl

theorem select_if (p : Prop) [Decidable p] (x y : EReal) : Scalar.select (BitVec.ofBool (decide p)) x y = if p then x else y := by
  by_cases h : p
  · rw [if_pos h, decide_eq_true h]; rfl
  · rw [if_neg h, decide_eq_false h]; rfl

theorem scaleT_apply (w : FVec Ideal S16x128 .f32) (j : S16x128.Idx) : scaleT w j = scale (w j) := by
  have e : scaleT w j = Scalar.select (BitVec.ofBool (decide (min (Ideal.ofBits .f32 0x43E00000#32) (max (Ideal.ofBits .f32 0x00000000#32) (w j)) = Ideal.ofBits .f32 0x00000000#32)))
    (Ideal.ofBits .f32 0x3F800000#32) (min (Ideal.ofBits .f32 0x43E00000#32) (max (Ideal.ofBits .f32 0x00000000#32) (w j))) := rfl
  rw [e, bits_448, bits_0, bits_1, select_if, scale]

theorem stepT_apply (t : FVec Ideal S16x128 .f32) (j : S16x128.Idx) : stepT t j = step (t j) := by
  have e : stepT t j = Scalar.select (BitVec.ofBool (decide (max (t j) (-(t j)) < Ideal.ofBits .f32 0x40000000#32))) (Ideal.ofBits .f32 0x3F000000#32)
    (Scalar.select (BitVec.ofBool (decide (max (t j) (-(t j)) < Ideal.ofBits .f32 0x40800000#32))) (Ideal.ofBits .f32 0x3F800000#32) (Ideal.ofBits .f32 0x40000000#32)) := rfl
  rw [e, bits_2, bits_4, bits_half, bits_1, select_if, select_if, step]

theorem gridT_apply (t : FVec Ideal S16x128 .f32) (j : S16x128.Idx) : gridT t j = grid (t j) := by
  have e : gridT t j = Ideal.liftRound Ideal.roundHalfEven (Ideal.div (t j) (stepT t j)) * stepT t j + Ideal.ofBits .f32 0x00000000#32 := rfl
  rw [e, bits_0, add_zero, stepT_apply, grid]

theorem ratioT_apply (v0 : EReal) (w x : FVec Ideal S16x128 .f32) (i r : Fin 16) (l : Fin 128) :
    ratioT v0 w x (BitVec.ofNat 32 i.val) (ix2 r l) = hold (x (ix2 r l) * Ideal.div 1 (scale (w (ix2 r (entry i l))) * v0)) := by
  have e : ratioT v0 w x (BitVec.ofNat 32 i.val) (ix2 r l) = min (max (x (ix2 r l) *
    dynamicGather 1 (divf (broadcast S16x128 (Scalar.ofBits .f32 0x3F800000#32)) (mulf (scaleT w) (broadcast S16x128 (v0 : Ideal .f32))))
      (wrap (pick (BitVec.ofNat 32 i.val))) (ix2 r l)) (Ideal.ofBits .f32 0xC0C00000#32)) (Ideal.ofBits .f32 0x40C00000#32) := rfl
  have e2 : divf (broadcast S16x128 (Scalar.ofBits .f32 0x3F800000#32)) (mulf (scaleT w) (broadcast S16x128 (v0 : Ideal .f32))) (ix2 r (entry i l))
    = Ideal.div (Ideal.ofBits .f32 0x3F800000#32) (scaleT w (ix2 r (entry i l)) * v0) := rfl
  rw [e, gather_apply _ _ r l (entry i l) (pick_apply i r l), e2, bits_6, bits_neg6, bits_1, scaleT_apply, hold]

/-- A quantised tile's entry: the held ratio on the grid, at its group's scale times sixty-four. -/
theorem quantT_apply (v0 : EReal) (T : Fin 16 → FVec Ideal S16x128 .f32) (i r : Fin 16) (l : Fin 128) :
    quantT v0 (rawT v0 T) (T i) (BitVec.ofNat 32 i.val) (ix2 r l) =
      have s := scale (Ideal.div (top (fun l => max (T i (ix2 r l)) (-(T i (ix2 r l)))) l) (6 * v0))
      grid (hold (T i (ix2 r l) * Ideal.div 1 (s * v0))) * (s * 64) := by
  have hw : rawT v0 T (ix2 r (entry i l)) = Ideal.div (top (fun l => max (T i (ix2 r l)) (-(T i (ix2 r l)))) l) (6 * v0) := by
    have e : rawT v0 T (ix2 r (entry i l)) = Ideal.div (treeT (fun i => absf (T i)) (ix2 r (entry i l))) (Ideal.ofBits .f32 0x40C00000#32 * v0) := rfl
    rw [e, treeT_apply, tree_entry, bits_6]
    rfl
  have e : quantT v0 (rawT v0 T) (T i) (BitVec.ofNat 32 i.val) (ix2 r l) = gridT (ratioT v0 (rawT v0 T) (T i) (BitVec.ofNat 32 i.val)) (ix2 r l) *
    dynamicGather 1 (mulf (scaleT (rawT v0 T)) (broadcast S16x128 (Scalar.ofBits .f32 0x42800000#32))) (wrap (pick (BitVec.ofNat 32 i.val))) (ix2 r l) := by
    rw [quantT, shapeCast_self]; rfl
  have e2 : mulf (scaleT (rawT v0 T)) (broadcast S16x128 (Scalar.ofBits .f32 0x42800000#32)) (ix2 r (entry i l)) =
    scaleT (rawT v0 T) (ix2 r (entry i l)) * Ideal.ofBits .f32 0x42800000#32 := rfl
  rw [e, gridT_apply, ratioT_apply, gather_apply _ _ r l (entry i l) (pick_apply i r l), e2, scaleT_apply, bits_64, hw]

end Cert.Math
end
end
-- ==== Proof.Value.LoopContent.lean ====
/- What the quantising loop writes: every piece of the first buffer is a tile of the quantised activations, every piece of
   the second a tile of the smoothed ones. -/
module

public import proofs.«01_k».proof.Proof.Math.QuantTile
public import proofs.«01_k».proof.Proof.Value.Loops
public import Idealize.ShloMosaic.Lib.WholeRead
public import Idealize.ShloMosaic.Lib.Ring

@[expose] public section

set_option maxRecDepth 16384

noncomputable section

namespace Cert.KernelIdeal.Gen

open Idealize.ShloMosaic Idealize.ShloMosaic.TcCoe Idealize.ShloMosaic.Tactic Idealize.SL.Sem Cert.Math

/-- The smoothed activation of a row and channel. -/
def smoothed (x0 : Vec Ideal S256x3072 .bf16) (x1 : Vec Ideal S1x3072 .f32) (R : Fin 256) (C : Fin 3072) : EReal :=
  x0 (ix2 R C) * x1 (ix2 0 C)

/-- The largest magnitude of a channel's group of sixteen. -/
def peak (x0 : Vec Ideal S256x3072 .bf16) (x1 : Vec Ideal S1x3072 .f32) (R : Fin 256) (C : Fin 3072) : EReal :=
  Finset.univ.sup fun k : Fin 16 =>
    max (smoothed x0 x1 R ⟨16 * (C.val / 16) + k.val, by omega⟩) (-(smoothed x0 x1 R ⟨16 * (C.val / 16) + k.val, by omega⟩))

/-- A channel's scale. -/
def scaleAt (g : EReal) (x0 : Vec Ideal S256x3072 .bf16) (x1 : Vec Ideal S1x3072 .f32) (R : Fin 256) (C : Fin 3072) : EReal :=
  scale (Ideal.div (peak x0 x1 R C) (6 * g))

/-- The smoothed activations. -/
def XS (x0 : Vec Ideal S256x3072 .bf16) (x1 : Vec Ideal S1x3072 .f32) : Vec Ideal S256x3072 .bf16 :=
  fun j => smoothed x0 x1 (j 0) (j 1)

/-- The quantised activations, sixty-four times over. -/
def XQ (g : EReal) (x0 : Vec Ideal S256x3072 .bf16) (x1 : Vec Ideal S1x3072 .f32) : Vec Ideal S256x3072 .bf16 :=
  fun j => grid (hold (smoothed x0 x1 (j 0) (j 1) * Ideal.div 1 (scaleAt g x0 x1 (j 0) (j 1) * g))) * (scaleAt g x0 x1 (j 0) (j 1) * 64)

/-- Every piece of a list is the tile its place names of `G`; the number counts the tiles still in the list. -/
def Tiles (G : Vec Ideal S256x3072 .bf16) (_ : Nat) (P : List (View.Piece (Elt Ideal) S256x3072 .bf16)) : Prop :=
  ∀ p ∈ P, ∀ x, p.2 x = G (p.1.emb x)

theorem tiles_nil (G : Vec Ideal S256x3072 .bf16) (n : Nat) : Tiles G n [] := fun _ hp => absurd hp List.not_mem_nil

theorem tiles_append (G : Vec Ideal S256x3072 .bf16) {n : Nat} {P Q : List (View.Piece (Elt Ideal) S256x3072 .bf16)}
    (h : Tiles G n P) (h' : Tiles G n Q) : Tiles G n (P ++ Q) :=
  fun p hp => (List.mem_append.mp hp).elim (h p) (h' p)

/-- The place of tile `i` of trip `k`, as the kernel computes it. -/
def place (k : Fin k0_t1_loop.trips) (i : Fin 16) : Fin 2 → Nat :=
  match i.val with
  | 0 => k0_off1 k 0#32
  | 1 => k0_off1 k 16#32
  | 2 => k0_off1 k 32#32
  | 3 => k0_off1 k 48#32
  | 4 => k0_off3 k 0#32
  | 5 => k0_off3 k 16#32
  | 6 => k0_off3 k 32#32
  | 7 => k0_off3 k 48#32
  | 8 => k0_off5 k 0#32
  | 9 => k0_off5 k 16#32
  | 10 => k0_off5 k 32#32
  | 11 => k0_off5 k 48#32
  | 12 => k0_off7 k 0#32
  | 13 => k0_off7 k 16#32
  | 14 => k0_off7 k 32#32
  | _ => k0_off7 k 48#32

/-- The place of tile `i`'s smoothing factors. -/
def factors (k : Fin k0_t1_loop.trips) (i : Fin 16) : Fin 2 → Nat :=
  match i.val with
  | 0 => k0_off2 k
  | 1 => k0_off2 k
  | 2 => k0_off2 k
  | 3 => k0_off2 k
  | 4 => k0_off4 k
  | 5 => k0_off4 k
  | 6 => k0_off4 k
  | 7 => k0_off4 k
  | 8 => k0_off6 k
  | 9 => k0_off6 k
  | 10 => k0_off6 k
  | 11 => k0_off6 k
  | 12 => k0_off8 k
  | 13 => k0_off8 k
  | 14 => k0_off8 k
  | _ => k0_off8 k

/-- The column of tile `i` of trip `k`. -/
def col (k : Fin k0_t1_loop.trips) (i : Fin 16) : Nat := 1536 * (i.val / 8) + 256 * (k.val / 4) + 128 * (i.val / 4 % 2)

theorem place_eq : ∀ (k : Fin k0_t1_loop.trips) (i : Fin 16), place k i = ![64 * (k.val % 4) + 16 * (i.val % 4), col k i] := by
  decide +kernel

theorem factors_eq : ∀ (k : Fin k0_t1_loop.trips) (i : Fin 16), factors k i = ![0, col k i] := by
  decide +kernel

theorem place_inb : ∀ (k : Fin k0_t1_loop.trips) (i : Fin 16), ∀ a, place k i a + S16x128.size a ≤ S256x3072.size a := by
  decide +kernel

theorem factors_inb : ∀ (k : Fin k0_t1_loop.trips) (i : Fin 16), ∀ a, factors k i a + S1x128.size a ≤ S1x3072.size a := by
  decide +kernel

section

variable (𝒱 : Variants) (c : Dev nD) (bd : Option 𝒱.V) (i : grid0.Coords) (arg1 : Memref sig .tc .vmem S256x3072 .bf16)
  (harg1 : arg1.IsWhole) (arg2 : Memref sig .tc .vmem S1x3072 .f32) (harg2 : arg2.IsWhole)
  (arg3 : Memref sig .tc .smem S1 .f32) (harg3 : arg3.IsWhole) (arg4 : Memref sig .tc .vmem S1536x512 .i8)
  (harg4 : arg4.IsWhole) (arg5 : Memref sig .tc .vmem S192x512 .fp8e4m3) (harg5 : arg5.IsWhole)
  (arg6 : Memref sig .tc .smem S1 .f32) (harg6 : arg6.IsWhole) (arg7 : Memref sig .tc .vmem S3072x32 .bf16)
  (harg7 : arg7.IsWhole) (arg8 : Memref sig .tc .vmem S32x512 .bf16) (harg8 : arg8.IsWhole)
  (arg9 : Memref sig .tc .vmem S1x512 .f32) (harg9 : arg9.IsWhole) (arg10 : Memref sig .tc .vmem S256x512 .bf16)
  (harg10 : arg10.IsWhole) (arg11 : Memref sig .tc .vmem S256x1536 .i8) (harg11 : arg11.IsWhole)
  (arg12 : Memref sig .tc .vmem S256x192 .fp8e4m3) (harg12 : arg12.IsWhole)
  (arg13 : Memref sig .tc .vmem S256x3072 .bf16) (harg13 : arg13.IsWhole) (arg14 : Memref sig .tc .vmem S256x3072 .bf16)
  (harg14 : arg14.IsWhole) (arg15 : Memref sig .tc .vmem S256x32 .bf16) (harg15 : arg15.IsWhole)
  (arg16 : Memref sig .tc .vmem S256x256 .f32) (harg16 : arg16.IsWhole) (arg17 : Memref sig .tc .vmem S192x2x512 .bf16)
  (harg17 : arg17.IsWhole) (arg18 : Memref sig .tc .vmem S3072x512 .bf16) (harg18 : arg18.IsWhole) (v0 : EReal)
  (k0_h1 : k0_cond1 i = 1#1) (X_arg1 : BufTy.Contents (Elt Ideal) arg1.view.ty)
  (X_arg2 : BufTy.Contents (Elt Ideal) arg2.view.ty)
  (k : Fin k0_t1_loop.trips) (f_arg11 : BufTy.Contents (Elt Ideal) arg11.view.ty) (f_arg13 : BufTy.Contents (Elt Ideal) arg13.view.ty)
  (f_arg14 : BufTy.Contents (Elt Ideal) arg14.view.ty) (f_arg16 : BufTy.Contents (Elt Ideal) arg16.view.ty)

/-- Tile `i` of the activations a trip reads. -/
def rowsOf (i : Fin 16) : Vec Ideal S16x128 .bf16 :=
  View.readAt (Elt Ideal) arg1.view (Rect.unit (s := S256x3072) (place k i) S16x128.size (place_inb k i)).toLoadRect X_arg1

/-- Tile `i`'s smoothing factors. -/
def factorsOf (i : Fin 16) : Vec Ideal S1x128 .f32 :=
  View.readAt (Elt Ideal) arg2.view (Rect.unit (s := S1x3072) (factors k i) S1x128.size (factors_inb k i)).toLoadRect X_arg2

/-- Tile `i` of the smoothed activations. -/
def tileOf (i : Fin 16) : FVec Ideal S16x128 .f32 := k0_pay2 (rowsOf arg1 X_arg1 k i) (factorsOf arg2 X_arg2 k i)

/-- The trip's raw scales. -/
theorem raw_eq : trip_k0_t1.sl.r_55 (F := Ideal) i arg1 arg2 v0 k0_h1 X_arg1 X_arg2 k = rawT v0 (tileOf arg1 arg2 X_arg1 X_arg2 k) := by
  rfl

theorem tile_apply (x0 : Vec Ideal S256x3072 .bf16) (x1 : Vec Ideal S1x3072 .f32) (i r : Fin 16) (l : Fin 128)
    (R : Fin 256) (C : Fin 3072) (hR : R.val = 64 * (k.val % 4) + 16 * (i.val % 4) + r.val) (hC : C.val = col k i + l.val) :
    tileOf arg1 arg2 (harg1.unread x0) (harg2.unread x1) k i (ix2 r l) = smoothed x0 x1 R C := by
  have e : tileOf arg1 arg2 (harg1.unread x0) (harg2.unread x1) k i (ix2 r l) =
      rowsOf arg1 (harg1.unread x0) k i (ix2 r l) * factorsOf arg2 (harg2.unread x1) k i (ix2 0 l) := by
    pointwise [tileOf, k0_pay2]
  have p0 := congrFun (place_eq k i) 0
  have p1 := congrFun (place_eq k i) 1
  have q0 := congrFun (factors_eq k i) 0
  have q1 := congrFun (factors_eq k i) 1
  rw [e, rowsOf, factorsOf, harg1.readAt_unread, harg2.readAt_unread, smoothed]
  congr 2
  · funext a
    match a with
    | ⟨0, _⟩ => exact Fin.ext (by show place k i 0 + 1 * r.val = R.val; rw [p0, hR]; simp)
    | ⟨1, _⟩ => exact Fin.ext (by show place k i 1 + 1 * l.val = C.val; rw [p1, hC]; simp)
  · funext a
    match a with
    | ⟨0, _⟩ => exact Fin.ext (by show factors k i 0 + 1 * 0 = 0; rw [q0]; simp)
    | ⟨1, _⟩ => exact Fin.ext (by show factors k i 1 + 1 * l.val = C.val; rw [q1, hC]; simp)

theorem smoothed_top (x0 : Vec Ideal S256x3072 .bf16) (x1 : Vec Ideal S1x3072 .f32) (i r : Fin 16) (l : Fin 128)
    (R : Fin 256) (C : Fin 3072) (hR : R.val = 64 * (k.val % 4) + 16 * (i.val % 4) + r.val) (hC : C.val = col k i + l.val) :
    top (fun l => max (tileOf arg1 arg2 (harg1.unread x0) (harg2.unread x1) k i (ix2 r l))
      (-(tileOf arg1 arg2 (harg1.unread x0) (harg2.unread x1) k i (ix2 r l)))) l = peak x0 x1 R C := by
  unfold top peak
  congr 1
  funext n
  have h : col k i = 128 * (12 * (i.val / 8) + 2 * (k.val / 4) + i.val / 4 % 2) := by unfold col; omega
  dsimp only
  rw [tile_apply arg1 harg1 arg2 harg2 k x0 x1 i r _ R ⟨16 * (C.val / 16) + n.val, by omega⟩ hR (by dsimp only; omega)]

theorem quant_cons (x0 : Vec Ideal S256x3072 .bf16) (x1 : Vec Ideal S1x3072 .f32) (n : Nat) (hn : n < 16) {off : Fin 2 → Nat}
    (h : ∀ a, off a + S16x128.size a ≤ S256x3072.size a) {w : FVec Ideal S16x128 .bf16}
    {P : List (View.Piece (Elt Ideal) S256x3072 .bf16)} (ho : off = place k ⟨n, hn⟩)
    (hw : w = quantT v0 (trip_k0_t1.sl.r_55 (F := Ideal) i arg1 arg2 v0 k0_h1 (harg1.unread x0) (harg2.unread x1) k)
      (tileOf arg1 arg2 (harg1.unread x0) (harg2.unread x1) k ⟨n, hn⟩) (BitVec.ofNat 32 n))
    (hP : Tiles (XQ v0 x0 x1) n P) :
    Tiles (XQ v0 x0 x1) (n + 1) (⟨Rect.unit (s := S256x3072) off S16x128.size h, w⟩ :: P) := by
  intro p hp
  rcases List.mem_cons.mp hp with rfl | hp
  swap
  · exact hP p hp
  intro x
  subst ho hw
  obtain ⟨r, l, rfl⟩ : ∃ (r : Fin 16) (l : Fin 128), x = ix2 r l := ⟨x 0, x 1, eq_ix2 x⟩
  have p0 := congrFun (place_eq k ⟨n, hn⟩) 0
  have p1 := congrFun (place_eq k ⟨n, hn⟩) 1
  have hR : ((Rect.unit (s := S256x3072) (place k ⟨n, hn⟩) S16x128.size h).emb (ix2 r l) 0).val = 64 * (k.val % 4) + 16 * (n % 4) + r.val := by
    show place k ⟨n, hn⟩ 0 + 1 * r.val = _; rw [p0]; simp
  have hC : ((Rect.unit (s := S256x3072) (place k ⟨n, hn⟩) S16x128.size h).emb (ix2 r l) 1).val = col k ⟨n, hn⟩ + l.val := by
    show place k ⟨n, hn⟩ 1 + 1 * l.val = _; rw [p1]; simp
  show quantT _ _ _ _ (ix2 r l) = _
  rw [raw_eq]
  refine (quantT_apply v0 (tileOf arg1 arg2 (harg1.unread x0) (harg2.unread x1) k) ⟨n, hn⟩ r l).trans ?_
  rw [smoothed_top arg1 harg1 arg2 harg2 k x0 x1 ⟨n, hn⟩ r l _ _ hR hC, tile_apply arg1 harg1 arg2 harg2 k x0 x1 ⟨n, hn⟩ r l _ _ hR hC]
  rfl

theorem smooth_cons (x0 : Vec Ideal S256x3072 .bf16) (x1 : Vec Ideal S1x3072 .f32) (n : Nat) (hn : n < 16) {off : Fin 2 → Nat}
    (h : ∀ a, off a + S16x128.size a ≤ S256x3072.size a) {w : FVec Ideal S16x128 .bf16}
    {P : List (View.Piece (Elt Ideal) S256x3072 .bf16)} (ho : off = place k ⟨n, hn⟩)
    (hw : w = k0_pay3 (F := Ideal) (rowsOf arg1 (harg1.unread x0) k ⟨n, hn⟩) (factorsOf arg2 (harg2.unread x1) k ⟨n, hn⟩))
    (hP : Tiles (XS x0 x1) n P) :
    Tiles (XS x0 x1) (n + 1) (⟨Rect.unit (s := S256x3072) off S16x128.size h, w⟩ :: P) := by
  intro p hp
  rcases List.mem_cons.mp hp with rfl | hp
  swap
  · exact hP p hp
  intro x
  subst ho hw
  obtain ⟨r, l, rfl⟩ : ∃ (r : Fin 16) (l : Fin 128), x = ix2 r l := ⟨x 0, x 1, eq_ix2 x⟩
  have p0 := congrFun (place_eq k ⟨n, hn⟩) 0
  have p1 := congrFun (place_eq k ⟨n, hn⟩) 1
  have hR : ((Rect.unit (s := S256x3072) (place k ⟨n, hn⟩) S16x128.size h).emb (ix2 r l) 0).val = 64 * (k.val % 4) + 16 * (n % 4) + r.val := by
    show place k ⟨n, hn⟩ 0 + 1 * r.val = _; rw [p0]; simp
  have hC : ((Rect.unit (s := S256x3072) (place k ⟨n, hn⟩) S16x128.size h).emb (ix2 r l) 1).val = col k ⟨n, hn⟩ + l.val := by
    show place k ⟨n, hn⟩ 1 + 1 * l.val = _; rw [p1]; simp
  have e : k0_pay3 (F := Ideal) (rowsOf arg1 (harg1.unread x0) k ⟨n, hn⟩) (factorsOf arg2 (harg2.unread x1) k ⟨n, hn⟩) (ix2 r l) =
      tileOf arg1 arg2 (harg1.unread x0) (harg2.unread x1) k ⟨n, hn⟩ (ix2 r l) := by
    rw [k0_pay3, shapeCast_self]; rfl
  show k0_pay3 _ _ (ix2 r l) = _
  rw [e, tile_apply arg1 harg1 arg2 harg2 k x0 x1 ⟨n, hn⟩ r l _ _ hR hC]
  rfl

set_option maxHeartbeats 4000000 in
/-- A trip's quantised tiles. -/
theorem trip_quant (x0 : Vec Ideal S256x3072 .bf16) (x1 : Vec Ideal S1x3072 .f32) :
    Tiles (XQ v0 x0 x1) 16 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 (harg1.unread x0) (harg2.unread x1) k f_arg11 f_arg13 f_arg14 f_arg16).2.1 := by
  unfold tripL_k0_t1 trip_k0_t1
  iterate 16
    refine quant_cons i arg1 harg1 arg2 harg2 v0 k0_h1 k x0 x1 _ (by decide) _ (by rfl) (by rfl) ?_
  exact tiles_nil _ _

set_option maxHeartbeats 4000000 in
/-- A trip's smoothed tiles. -/
theorem trip_smooth (x0 : Vec Ideal S256x3072 .bf16) (x1 : Vec Ideal S1x3072 .f32) :
    Tiles (XS x0 x1) 16 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 (harg1.unread x0) (harg2.unread x1) k f_arg11 f_arg13 f_arg14 f_arg16).2.2.1 := by
  unfold tripL_k0_t1 trip_k0_t1
  iterate 16
    refine smooth_cons arg1 harg1 arg2 harg2 k x0 x1 _ (by decide) _ (by rfl) (by rfl) ?_
  exact tiles_nil _ _

variable (G_arg11 : BufTy.Contents (Elt Ideal) arg11.view.ty) (G_arg13 : BufTy.Contents (Elt Ideal) arg13.view.ty)
  (G_arg14 : BufTy.Contents (Elt Ideal) arg14.view.ty) (G_arg16 : BufTy.Contents (Elt Ideal) arg16.view.ty)

/-- The tiles of all the trips before `n`. -/
theorem trips_tiles (x0 : Vec Ideal S256x3072 .bf16) (x1 : Vec Ideal S1x3072 .f32) : ∀ n : Nat, n ≤ k0_t1_loop.trips →
    Tiles (XQ v0 x0 x1) 16 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 (harg1.unread x0) (harg2.unread x1) G_arg11 G_arg13 G_arg14 G_arg16 n).2.1 ∧
    Tiles (XS x0 x1) 16 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 (harg1.unread x0) (harg2.unread x1) G_arg11 G_arg13 G_arg14 G_arg16 n).2.2.1 := by
  intro n
  induction n with
  | zero => exact fun _ => ⟨tiles_nil _ _, tiles_nil _ _⟩
  | succ n ih =>
    intro hn
    obtain ⟨h1, h2⟩ := ih (by omega)
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 (harg1.unread x0) (harg2.unread x1) G_arg11 G_arg13 G_arg14 G_arg16 ⟨n, hn⟩]
    exact ⟨tiles_append _ (trip_quant 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 _ _ _ _ _ x0 x1) h1,
      tiles_append _ (trip_smooth 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 _ _ _ _ _ x0 x1) h2⟩

set_option maxHeartbeats 4000000 in
theorem quant_cover (x0 : Vec Ideal S256x3072 .bf16) (x1 : Vec Ideal S1x3072 .f32) : ∀ y : S256x3072.Idx,
    ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 (harg1.unread x0) (harg2.unread x1) G_arg11 G_arg13 G_arg14 G_arg16
      (Scf.trips k0_t1_loop.lb k0_t1_loop.ub k0_t1_loop.st)).2.1, y ∈ p.1.set :=
  View.cover_of_tiledL _ S16x128.size (by sl_kernel_rfl)

set_option maxHeartbeats 4000000 in
theorem smooth_cover (x0 : Vec Ideal S256x3072 .bf16) (x1 : Vec Ideal S1x3072 .f32) : ∀ y : S256x3072.Idx,
    ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 k0_h1 (harg1.unread x0) (harg2.unread x1) G_arg11 G_arg13 G_arg14 G_arg16
      (Scf.trips k0_t1_loop.lb k0_t1_loop.ub k0_t1_loop.st)).2.2.1, y ∈ p.1.set :=
  View.cover_of_tiledL _ S16x128.size (by sl_kernel_rfl)

end

end Cert.KernelIdeal.Gen
end
end
-- ==== Proof.Math.Fp4.lean ====
/- The four-bit values: what a code means, and the eight-bit float the kernel builds of a code, which is that value
   over sixty-four. -/
module

public import Idealize.ShloMosaic.Lib.Pointwise
public import Idealize.ShloMosaic.Lib.BitcastFour
public import Mathlib.Tactic.NormNum

@[expose] public section

noncomputable section

namespace Cert.Math

open Idealize.ShloMosaic

/-- The value of the three magnitude bits of a code. -/
def mag (n : BitVec 3) : ℝ :=
  if n = 0 then 0 else if n = 1 then 1 / 2 else if n = 2 then 1 else if n = 3 then 3 / 2
  else if n = 4 then 2 else if n = 5 then 3 else if n = 6 then 4 else 6

/-- The value of a four-bit code: a sign and a magnitude. -/
def dec (n : BitVec 4) : ℝ := if n.getLsbD 3 then - mag (n.setWidth 3) else mag (n.setWidth 3)

/-- The byte the kernel makes of the low code of a byte. -/
def loByte (b : BitVec 8) : BitVec 8 := ((b <<< 4) &&& 0x80#8) ||| ((b <<< 2) &&& 0x1C#8)
/-- The byte the kernel makes of the high code of a byte. -/
def hiByte (b : BitVec 8) : BitVec 8 := (b &&& 0x80#8) ||| ((b >>> 2) &&& 0x1C#8)
/-- The byte of a code. -/
def codeByte (n : BitVec 4) : BitVec 8 := ((n.setWidth 8 <<< 4) &&& 0x80#8) ||| ((n.setWidth 8 <<< 2) &&& 0x1C#8)

/-- The low code of a byte. -/
def loCode (b : BitVec 8) : BitVec 4 := b.setWidth 4
/-- The high code of a byte. -/
def hiCode (b : BitVec 8) : BitVec 4 := (b >>> 4).setWidth 4

theorem loByte_eq : ∀ b, loByte b = codeByte (loCode b) := by decide +kernel
theorem hiByte_eq : ∀ b, hiByte b = codeByte (hiCode b) := by decide +kernel

/-- The eight-bit float of a code is the code's value over sixty-four. -/
theorem ofBits_codeByte (n : BitVec 4) :
    Ideal.ofBits .fp8e4m3 (codeByte n) = ((dec n * (1 / 64) : ℝ) : EReal) := by
  have h : ∀ m : Fin 16, Ideal.ofBits .fp8e4m3 (codeByte (BitVec.ofFin m)) = ((dec (BitVec.ofFin m) * (1 / 64) : ℝ) : EReal) := by
    intro m
    fin_cases m <;> (simp [Ideal.ofBits, Ideal.e4m3fn, codeByte, dec, mag, -EReal.coe_mul, -EReal.coe_neg] <;> norm_num [-EReal.coe_mul, -EReal.coe_neg])
  exact h n.toFin

end Cert.Math
end
end
-- ==== Proof.Math.Tile.lean ====
/- A tile of the dequantised weights: thirty-two rows of packed bytes give two fields of eight-bit floats, each
   sixteen rows of a field times a row of scales. -/
module

public import proofs.«01_k».proof.Proof.Math.Fp4
public import proofs.«01_k».proof.Proof.Gen.KernelIdeal.Skeleton

@[expose] public section

noncomputable section

namespace Cert.Math

open Idealize.ShloMosaic Cert.KernelIdeal Cert.KernelIdeal.Gen

/-- The words of thirty-two rows of bytes. -/
def wordOf (w : Vec Ideal S32x512 .i8) : IVec S8x512 32 := bitcast S8x512 32 w bitcasts_S32x512_w8_S8x512_w32

/-- The field of low codes, as words. -/
def loWord (v : IVec S8x512 32) : IVec S8x512 32 :=
  ori (andi (shli v (broadcast S8x512 4#32)) (broadcast S8x512 2155905152#32))
    (andi (shli v (broadcast S8x512 2#32)) (broadcast S8x512 471604252#32))

/-- The field of high codes, as words. -/
def hiWord (v : IVec S8x512 32) : IVec S8x512 32 :=
  ori (andi v (broadcast S8x512 2155905152#32))
    (andi (shrui v (broadcast S8x512 2#32)) (broadcast S8x512 471604252#32))

/-- A field of words as its floats. -/
def fieldOf (v : IVec S8x512 32) : FVec Ideal S32x512 .bf16 :=
  extf .bf16 (bitcastToFloat .fp8e4m3 (bitcast S32x512 8 v bitcasts_S8x512_w32_S32x512_w8)) bitsLt_fp8e4m3_bf16

theorem bitcast_word_getLsbD (v : IVec S8x512 32) (p : Fin 32) (c : Fin 512) (a : Fin 8) (k : Nat) (hp : p.val = 4 * a.val + k)
    (hk : k < 4) (q : Nat) (hq : q < 8) :
    (bitcast S32x512 8 v bitcasts_S8x512_w32_S32x512_w8 (ix2 p c)).getLsbD q = (v (ix2 a c)).getLsbD (8 * k + q) := by
  rw [bitcast_getLsbD v bitcasts_S8x512_w32_S32x512_w8 _ q hq (by decide)]
  have hr : Shape.row S32x512 (ix2 p c) = p.val := rfl
  have e1 : (Shape.row S32x512 (ix2 p c) * 8 + q) / 32 = a.val := by rw [hr]; omega
  have e2 : (Shape.row S32x512 (ix2 p c) * 8 + q) % 32 = 8 * k + q := by rw [hr]; omega
  rw [e2]
  congr 2
  funext b
  match b with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- Each byte of the low field is built of the byte it stands over. -/
theorem lo_byte (w : Vec Ideal S32x512 .i8) (p : Fin 32) (c : Fin 512) :
    bitcast S32x512 8 (loWord (wordOf w)) bitcasts_S8x512_w32_S32x512_w8 (ix2 p c) = loByte (w (ix2 p c)) := by
  have hw : ∀ (a : Fin 8) (q : Nat) (hq : q < 32) (p' : Fin 32) (_ : p'.val = 4 * a.val + q / 8),
      (wordOf w (ix2 a c)).getLsbD q = BitVec.getLsbD (w (ix2 p' c)) (q % 8) :=
    fun a q hq p' h => bitcast_8_32_getLsbD_ix2 w _ a c q hq p' h
  obtain ⟨a, k, hk, hp⟩ : ∃ (a : Fin 8) (k : Nat), k < 4 ∧ p.val = 4 * a.val + k :=
    ⟨⟨p.val / 4, by omega⟩, p.val % 4, by omega, by dsimp only; omega⟩
  apply BitVec.eq_of_getLsbD_eq
  intro q hq
  rw [bitcast_word_getLsbD _ p c a k hp hk q hq]
  have hb : ∀ q, q < 8 → (wordOf w (ix2 a c)).getLsbD (8 * k + q) = BitVec.getLsbD (w (ix2 p c)) q := fun q hq => by
    rw [hw a (8 * k + q) (by omega) p (by omega)]; congr 1; omega
  have e : loWord (wordOf w) (ix2 a c) = ((wordOf w (ix2 a c) <<< 4) &&& 2155905152#32) ||| ((wordOf w (ix2 a c) <<< 2) &&& 471604252#32) := rfl
  rw [e]
  generalize wordOf w (ix2 a c) = W at hb
  generalize w (ix2 p c) = B at hb
  have h0 := hb 0 (by omega); have h1 := hb 1 (by omega); have h2 := hb 2 (by omega); have h3 := hb 3 (by omega)
  change BitVec 8 at B
  clear hw e hp hb
  interval_cases k <;> interval_cases q <;> simp_all [loByte, BitVec.getLsbD_or, BitVec.getLsbD_and, BitVec.getLsbD_shiftLeft]

/-- Each byte of the high field is built of the byte it stands over. -/
theorem hi_byte (w : Vec Ideal S32x512 .i8) (p : Fin 32) (c : Fin 512) :
    bitcast S32x512 8 (hiWord (wordOf w)) bitcasts_S8x512_w32_S32x512_w8 (ix2 p c) = hiByte (w (ix2 p c)) := by
  have hw : ∀ (a : Fin 8) (q : Nat) (hq : q < 32) (p' : Fin 32) (_ : p'.val = 4 * a.val + q / 8),
      (wordOf w (ix2 a c)).getLsbD q = BitVec.getLsbD (w (ix2 p' c)) (q % 8) :=
    fun a q hq p' h => bitcast_8_32_getLsbD_ix2 w _ a c q hq p' h
  obtain ⟨a, k, hk, hp⟩ : ∃ (a : Fin 8) (k : Nat), k < 4 ∧ p.val = 4 * a.val + k :=
    ⟨⟨p.val / 4, by omega⟩, p.val % 4, by omega, by dsimp only; omega⟩
  apply BitVec.eq_of_getLsbD_eq
  intro q hq
  rw [bitcast_word_getLsbD _ p c a k hp hk q hq]
  have hb : ∀ q, q < 8 → (wordOf w (ix2 a c)).getLsbD (8 * k + q) = BitVec.getLsbD (w (ix2 p c)) q := fun q hq => by
    rw [hw a (8 * k + q) (by omega) p (by omega)]; congr 1; omega
  have e : hiWord (wordOf w) (ix2 a c) = (wordOf w (ix2 a c) &&& 2155905152#32) ||| ((wordOf w (ix2 a c) >>> 2) &&& 471604252#32) := rfl
  rw [e]
  generalize wordOf w (ix2 a c) = W at hb
  generalize w (ix2 p c) = B at hb
  have h0 := hb 4 (by omega); have h1 := hb 5 (by omega); have h2 := hb 6 (by omega); have h3 := hb 7 (by omega)
  change BitVec 8 at B
  clear hw e hp hb
  interval_cases k <;> interval_cases q <;> simp_all [hiByte, BitVec.getLsbD_or, BitVec.getLsbD_and, BitVec.getLsbD_ushiftRight]

/-- The low field is the low codes' values over sixty-four. -/
theorem loField_apply (w : Vec Ideal S32x512 .i8) (p : Fin 32) (c : Fin 512) :
    fieldOf (loWord (wordOf w)) (ix2 p c) = ((dec (loCode (w (ix2 p c))) * (1 / 64) : ℝ) : EReal) := by
  show Ideal.ofBits .fp8e4m3 (bitcast S32x512 8 (loWord (wordOf w)) bitcasts_S8x512_w32_S32x512_w8 (ix2 p c)) = _
  rw [lo_byte, loByte_eq, ofBits_codeByte]

/-- The high field is the high codes' values over sixty-four. -/
theorem hiField_apply (w : Vec Ideal S32x512 .i8) (p : Fin 32) (c : Fin 512) :
    fieldOf (hiWord (wordOf w)) (ix2 p c) = ((dec (hiCode (w (ix2 p c))) * (1 / 64) : ℝ) : EReal) := by
  show Ideal.ofBits .fp8e4m3 (bitcast S32x512 8 (hiWord (wordOf w)) bitcasts_S8x512_w32_S32x512_w8 (ix2 p c)) = _
  rw [hi_byte, hiByte_eq, ofBits_codeByte]

/-- One of the two interleaved rows of a scale row. -/
def scaleRow (p : Fin 2) (raw : Vec Ideal S1x2x512 .bf16) : FVec Ideal S1x512 .bf16 :=
  shapeCast S1x512 (rowsOfParity p S1x1x512 raw bitcasts_S1x2x512_w16_S1x1x512_w32) shapeCasts_S1x1x512_S1x512

/-- Eight copies of a row. -/
def eight (x : FVec Ideal S1x512 .bf16) : FVec Ideal S8x512 .bf16 :=
  concatenate S8x512 0 [⟨S1x512, x⟩, ⟨S1x512, x⟩, ⟨S1x512, x⟩, ⟨S1x512, x⟩, ⟨S1x512, x⟩, ⟨S1x512, x⟩, ⟨S1x512, x⟩, ⟨S1x512, x⟩]
    concatenates_S1x512_S1x512_S1x512_S1x512_S1x512_S1x512_S1x512_S1x512_S8x512_d0

/-- Sixteen rows of one scale row. -/
def scales (raw : Vec Ideal S1x2x512 .bf16) : FVec Ideal S16x512 .bf16 :=
  interleaveRows S16x512 (eight (scaleRow 0 raw)) (eight (scaleRow 1 raw)) bitcasts_S16x512_w16_S8x512_w32

/-- The first sixteen rows of a field, scaled. -/
def tile0 (f : FVec Ideal S32x512 .bf16) (raw : Vec Ideal S1x2x512 .bf16) : FVec Ideal S16x512 .bf16 :=
  shapeCast S16x512 (mulf (extractStridedSlice S16x512 ![0, 0] f slices_S32x512_o0_0_S16x512) (scales raw)) shapeCasts_S16x512_S16x512

/-- The other sixteen rows of a field, scaled. -/
def tile1 (f : FVec Ideal S32x512 .bf16) (raw : Vec Ideal S1x2x512 .bf16) : FVec Ideal S16x512 .bf16 :=
  shapeCast S16x512 (mulf (extractStridedSlice S16x512 ![16, 0] f slices_S32x512_o16_0_S16x512) (scales raw)) shapeCasts_S16x512_S16x512

theorem eight_apply (x : FVec Ideal S1x512 .bf16) (i : Fin 8) (c : Fin 512) : eight x (ix2 i c) = x (ix2 0 c) := by
  fin_cases i <;> pointwise [eight]

theorem scaleRow_apply (p : Fin 2) (raw : Vec Ideal S1x2x512 .bf16) (c : Fin 512) :
    scaleRow p raw (ix2 0 c) = raw (ix3 0 p c) := by
  fin_cases p <;> pointwise [scaleRow]

theorem scales_apply (raw : Vec Ideal S1x2x512 .bf16) (s : Fin 512 → EReal) (h : ∀ p c, raw (ix3 0 p c) = s c) (i : Fin 16) (c : Fin 512) :
    scales raw (ix2 i c) = s c := by
  have hi : i.val / 2 < 8 := by omega
  have e : scales raw (ix2 i c) = if i.val % 2 = 0 then eight (scaleRow 0 raw) (ix2 ⟨i.val / 2, hi⟩ c) else eight (scaleRow 1 raw) (ix2 ⟨i.val / 2, hi⟩ c) := by
    pointwise [scales]
  rw [e]; split <;> rw [eight_apply, scaleRow_apply, h]

theorem tile0_apply (f : FVec Ideal S32x512 .bf16) (raw : Vec Ideal S1x2x512 .bf16) (s : Fin 512 → EReal) (h : ∀ p c, raw (ix3 0 p c) = s c)
    (i : Fin 16) (c : Fin 512) : tile0 f raw (ix2 i c) = f (ix2 ⟨i.val, by omega⟩ c) * s c := by
  have e : tile0 f raw (ix2 i c) = f (ix2 ⟨i.val, by omega⟩ c) * scales raw (ix2 i c) := by pointwise [tile0]
  rw [e, scales_apply raw s h]

theorem tile1_apply (f : FVec Ideal S32x512 .bf16) (raw : Vec Ideal S1x2x512 .bf16) (s : Fin 512 → EReal) (h : ∀ p c, raw (ix3 0 p c) = s c)
    (i : Fin 16) (c : Fin 512) : tile1 f raw (ix2 i c) = f (ix2 ⟨16 + i.val, by omega⟩ c) * s c := by
  have e : tile1 f raw (ix2 i c) = f (ix2 ⟨16 + i.val, by omega⟩ c) * scales raw (ix2 i c) := by pointwise [tile1]
  rw [e, scales_apply raw s h]

end Cert.Math
end
end
-- ==== Proof.Value.WeightTile.lean ====
/- What a stored tile of the dequantised weights is: the tile its place names of one function of the packed bytes and their scales. -/
module

public import proofs.«01_k».proof.Proof.Math.Tile
public import Idealize.ShloMosaic.Lib.WholeRead

@[expose] public section

set_option maxRecDepth 16384

noncomputable section

namespace Cert.KernelIdeal.Gen

open Idealize.ShloMosaic Idealize.ShloMosaic.TcCoe Idealize.SL.Sem Cert.Math

/-- The dequantised weight of a row and a column: the value of its code over sixty-four, times its scale. -/
def WD (x3 : Vec Ideal S1536x512 .i8) (x4 : Vec Ideal S192x512 .fp8e4m3) : Vec Ideal S3072x512 .bf16 := fun j =>
  (if h : (j 0).val < 1536 then ((dec (loCode (x3 (ix2 ⟨(j 0).val, h⟩ (j 1)))) * (1 / 64) : ℝ) : EReal)
    else ((dec (hiCode (x3 (ix2 ⟨(j 0).val - 1536, by have := (j 0).isLt; change _ < 3072 at this; omega⟩ (j 1)))) * (1 / 64) : ℝ) : EReal))
  * x4 (ix2 ⟨(j 0).val / 16, by have := (j 0).isLt; change _ < 3072 at this; omega⟩ (j 1))

section Tiles

variable {x3 : Vec Ideal S1536x512 .i8} {x4 : Vec Ideal S192x512 .fp8e4m3}
  {arg4 : Memref sig Kind.tc Space.vmem S1536x512 .i8} {harg4 : arg4.IsWhole}
  {arg17 : Memref sig Kind.tc Space.vmem S192x2x512 .bf16} {L : List (View.Piece (Elt Ideal) S192x2x512 .bf16)}

/-- Every scale row reads, in both of its places, the scales. -/
def ScaleRows (arg17 : Memref sig Kind.tc Space.vmem S192x2x512 .bf16) (L : List (View.Piece (Elt Ideal) S192x2x512 .bf16))
    (x4 : Vec Ideal S192x512 .fp8e4m3) : Prop :=
  ∀ (g : Nat) (hg : g < 192) (h : ∀ a, (![g, 0, 0] : Fin 3 → Nat) a + S1x2x512.size a ≤ S192x2x512.size a) (p : Fin 2) (c : Fin 512),
    arg17.view.readCov L (Rect.unit (s := S192x2x512) ![g, 0, 0] S1x2x512.size h).toLoadRect (ix3 0 p c) = x4 (ix2 ⟨g, hg⟩ c)

theorem read_rows (o : Nat) (h4 : ∀ a, (![o, 0] : Fin 2 → Nat) a + S32x512.size a ≤ S1536x512.size a) (i : Fin 32) (c : Fin 512)
    (hi : o + i.val < 1536) :
    View.readAt (Elt Ideal) arg4.view (Rect.unit (s := S1536x512) ![o, 0] S32x512.size h4).toLoadRect (harg4.unread x3) (ix2 i c)
      = x3 (ix2 ⟨o + i.val, hi⟩ c) := by
  rw [harg4.readAt_unread]
  congr 1
  funext a
  match a with
  | ⟨0, _⟩ => exact Fin.ext (by show o + 1 * i.val = o + i.val; omega)
  | ⟨1, _⟩ => exact Fin.ext (by show 0 + 1 * c.val = c.val; omega)

/-- The first sixteen rows of a block's low codes. -/
theorem lo0 (hL : ScaleRows arg17 L x4) {o g : Nat} {h4 : ∀ a, (![o, 0] : Fin 2 → Nat) a + S32x512.size a ≤ S1536x512.size a}
    {h17 : ∀ a, (![g, 0, 0] : Fin 3 → Nat) a + S1x2x512.size a ≤ S192x2x512.size a}
    {h18 : ∀ a, (![o, 0] : Fin 2 → Nat) a + S16x512.size a ≤ S3072x512.size a} (hg : g = o / 16) (hd : o % 32 = 0)
    {w : FVec Ideal S16x512 .bf16}
    (hw : w = tile0 (fieldOf (loWord (wordOf (View.readAt (Elt Ideal) arg4.view (Rect.unit (s := S1536x512) ![o, 0] S32x512.size h4).toLoadRect (harg4.unread x3)))))
      (arg17.view.readCov L (Rect.unit (s := S192x2x512) ![g, 0, 0] S1x2x512.size h17).toLoadRect))
    (x : S16x512.Idx) : w x
      = WD x3 x4 ((Rect.unit (s := S3072x512) ![o, 0] S16x512.size h18).emb x) := by
  subst hw
  have ho : o + 32 ≤ 1536 := h4 0
  obtain ⟨i, c, rfl⟩ : ∃ (i : Fin 16) (c : Fin 512), x = ix2 i c := ⟨x 0, x 1, eq_ix2 x⟩
  rw [tile0_apply _ _ _ (fun p c => hL g (by omega) h17 p c), loField_apply, read_rows o h4 ⟨i.val, by omega⟩ c (by dsimp only; omega)]
  have e0 : ((Rect.unit (s := S3072x512) ![o, 0] S16x512.size h18).emb (ix2 i c)) = ix2 (⟨o + i.val, by omega⟩ : Fin 3072) c := by
    funext a
    match a with
    | ⟨0, _⟩ => exact Fin.ext (by show o + 1 * i.val = o + i.val; omega)
    | ⟨1, _⟩ => exact Fin.ext (by show 0 + 1 * c.val = c.val; omega)
  rw [e0]
  have eg : (⟨g, by omega⟩ : Fin 192) = ⟨(o + i.val) / 16, by omega⟩ := Fin.ext (by dsimp only; omega)
  rw [eg]
  show _ = (if h : o + i.val < 1536 then _ else _) * _
  rw [dif_pos (by omega)]
  rfl

/-- The other sixteen rows of a block's low codes. -/
theorem lo1 (hL : ScaleRows arg17 L x4) {o g o' : Nat} {h4 : ∀ a, (![o, 0] : Fin 2 → Nat) a + S32x512.size a ≤ S1536x512.size a}
    {h17 : ∀ a, (![g, 0, 0] : Fin 3 → Nat) a + S1x2x512.size a ≤ S192x2x512.size a}
    {h18 : ∀ a, (![o', 0] : Fin 2 → Nat) a + S16x512.size a ≤ S3072x512.size a} (hg : g = o / 16 + 1) (ho' : o' = o + 16) (hd : o % 32 = 0)
    {w : FVec Ideal S16x512 .bf16}
    (hw : w = tile1 (fieldOf (loWord (wordOf (View.readAt (Elt Ideal) arg4.view (Rect.unit (s := S1536x512) ![o, 0] S32x512.size h4).toLoadRect (harg4.unread x3)))))
      (arg17.view.readCov L (Rect.unit (s := S192x2x512) ![g, 0, 0] S1x2x512.size h17).toLoadRect))
    (x : S16x512.Idx) : w x
      = WD x3 x4 ((Rect.unit (s := S3072x512) ![o', 0] S16x512.size h18).emb x) := by
  subst hw
  have ho : o + 32 ≤ 1536 := h4 0
  obtain ⟨i, c, rfl⟩ : ∃ (i : Fin 16) (c : Fin 512), x = ix2 i c := ⟨x 0, x 1, eq_ix2 x⟩
  rw [tile1_apply _ _ _ (fun p c => hL g (by omega) h17 p c), loField_apply, read_rows o h4 ⟨16 + i.val, by omega⟩ c (by dsimp only; omega)]
  have e0 : ((Rect.unit (s := S3072x512) ![o', 0] S16x512.size h18).emb (ix2 i c)) = ix2 (⟨o + (16 + i.val), by omega⟩ : Fin 3072) c := by
    funext a
    match a with
    | ⟨0, _⟩ => exact Fin.ext (by show o' + 1 * i.val = o + (16 + i.val); omega)
    | ⟨1, _⟩ => exact Fin.ext (by show 0 + 1 * c.val = c.val; omega)
  rw [e0]
  have eg : (⟨g, by omega⟩ : Fin 192) = ⟨(o + (16 + i.val)) / 16, by omega⟩ := Fin.ext (by dsimp only; omega)
  rw [eg]
  show _ = (if h : o + (16 + i.val) < 1536 then _ else _) * _
  rw [dif_pos (by omega)]
  rfl

/-- The first sixteen rows of a block's high codes. -/
theorem hi0 (hL : ScaleRows arg17 L x4) {o g o' : Nat} {h4 : ∀ a, (![o, 0] : Fin 2 → Nat) a + S32x512.size a ≤ S1536x512.size a}
    {h17 : ∀ a, (![g, 0, 0] : Fin 3 → Nat) a + S1x2x512.size a ≤ S192x2x512.size a}
    {h18 : ∀ a, (![o', 0] : Fin 2 → Nat) a + S16x512.size a ≤ S3072x512.size a} (hg : g = 96 + o / 16) (ho' : o' = 1536 + o) (hd : o % 32 = 0)
    {w : FVec Ideal S16x512 .bf16}
    (hw : w = tile0 (fieldOf (hiWord (wordOf (View.readAt (Elt Ideal) arg4.view (Rect.unit (s := S1536x512) ![o, 0] S32x512.size h4).toLoadRect (harg4.unread x3)))))
      (arg17.view.readCov L (Rect.unit (s := S192x2x512) ![g, 0, 0] S1x2x512.size h17).toLoadRect))
    (x : S16x512.Idx) : w x
      = WD x3 x4 ((Rect.unit (s := S3072x512) ![o', 0] S16x512.size h18).emb x) := by
  subst hw
  have ho : o + 32 ≤ 1536 := h4 0
  obtain ⟨i, c, rfl⟩ : ∃ (i : Fin 16) (c : Fin 512), x = ix2 i c := ⟨x 0, x 1, eq_ix2 x⟩
  rw [tile0_apply _ _ _ (fun p c => hL g (by omega) h17 p c), hiField_apply, read_rows o h4 ⟨i.val, by omega⟩ c (by dsimp only; omega)]
  have e0 : ((Rect.unit (s := S3072x512) ![o', 0] S16x512.size h18).emb (ix2 i c)) = ix2 (⟨1536 + (o + i.val), by omega⟩ : Fin 3072) c := by
    funext a
    match a with
    | ⟨0, _⟩ => exact Fin.ext (by show o' + 1 * i.val = 1536 + (o + i.val); omega)
    | ⟨1, _⟩ => exact Fin.ext (by show 0 + 1 * c.val = c.val; omega)
  rw [e0]
  have eg : (⟨g, by omega⟩ : Fin 192) = ⟨(1536 + (o + i.val)) / 16, by omega⟩ := Fin.ext (by dsimp only; omega)
  have er : (⟨o + i.val, by omega⟩ : Fin 1536) = ⟨1536 + (o + i.val) - 1536, by omega⟩ := Fin.ext (by dsimp only; omega)
  rw [eg]
  show ((dec (hiCode (x3 (ix2 ⟨o + i.val, _⟩ c))) * (1 / 64) : ℝ) : EReal) * _ = (if h : 1536 + (o + i.val) < 1536 then _ else _) * _
  rw [dif_neg (by omega), er]
  rfl

/-- The other sixteen rows of a block's high codes. -/
theorem hi1 (hL : ScaleRows arg17 L x4) {o g o' : Nat} {h4 : ∀ a, (![o, 0] : Fin 2 → Nat) a + S32x512.size a ≤ S1536x512.size a}
    {h17 : ∀ a, (![g, 0, 0] : Fin 3 → Nat) a + S1x2x512.size a ≤ S192x2x512.size a}
    {h18 : ∀ a, (![o', 0] : Fin 2 → Nat) a + S16x512.size a ≤ S3072x512.size a} (hg : g = 97 + o / 16) (ho' : o' = 1552 + o) (hd : o % 32 = 0)
    {w : FVec Ideal S16x512 .bf16}
    (hw : w = tile1 (fieldOf (hiWord (wordOf (View.readAt (Elt Ideal) arg4.view (Rect.unit (s := S1536x512) ![o, 0] S32x512.size h4).toLoadRect (harg4.unread x3)))))
      (arg17.view.readCov L (Rect.unit (s := S192x2x512) ![g, 0, 0] S1x2x512.size h17).toLoadRect))
    (x : S16x512.Idx) : w x
      = WD x3 x4 ((Rect.unit (s := S3072x512) ![o', 0] S16x512.size h18).emb x) := by
  subst hw
  have ho : o + 32 ≤ 1536 := h4 0
  obtain ⟨i, c, rfl⟩ : ∃ (i : Fin 16) (c : Fin 512), x = ix2 i c := ⟨x 0, x 1, eq_ix2 x⟩
  rw [tile1_apply _ _ _ (fun p c => hL g (by omega) h17 p c), hiField_apply, read_rows o h4 ⟨16 + i.val, by omega⟩ c (by dsimp only; omega)]
  have e0 : ((Rect.unit (s := S3072x512) ![o', 0] S16x512.size h18).emb (ix2 i c)) = ix2 (⟨1536 + (o + (16 + i.val)), by omega⟩ : Fin 3072) c := by
    funext a
    match a with
    | ⟨0, _⟩ => exact Fin.ext (by show o' + 1 * i.val = 1536 + (o + (16 + i.val)); omega)
    | ⟨1, _⟩ => exact Fin.ext (by show 0 + 1 * c.val = c.val; omega)
  rw [e0]
  have eg : (⟨g, by omega⟩ : Fin 192) = ⟨(1536 + (o + (16 + i.val))) / 16, by omega⟩ := Fin.ext (by dsimp only; omega)
  have er : (⟨o + (16 + i.val), by omega⟩ : Fin 1536) = ⟨1536 + (o + (16 + i.val)) - 1536, by omega⟩ := Fin.ext (by dsimp only; omega)
  rw [eg]
  show ((dec (hiCode (x3 (ix2 ⟨o + (16 + i.val), _⟩ c))) * (1 / 64) : ℝ) : EReal) * _ = (if h : 1536 + (o + (16 + i.val)) < 1536 then _ else _) * _
  rw [dif_neg (by omega), er]
  rfl

end Tiles

/-- The scales' buffer, stored whole, reads the scales in both places of every row. -/
theorem scaleRows (arg5 : Memref sig Kind.tc Space.vmem S192x512 .fp8e4m3) (harg5 : arg5.IsWhole)
    (arg17 : Memref sig Kind.tc Space.vmem S192x2x512 .bf16) (x4 : Vec Ideal S192x512 .fp8e4m3)
    {h16 : ∀ a, (![0, 0, 0] : Fin 3 → Nat) a + S192x2x512.size a ≤ S192x2x512.size a}
    {h5 : ∀ a, (![0, 0] : Fin 2 → Nat) a + S192x512.size a ≤ S192x512.size a} :
    ScaleRows arg17 [⟨Rect.unit ![0, 0, 0] S192x2x512.size h16,
      k0_pay232 (View.readAt (Elt Ideal) arg5.view (Rect.unit ![0, 0] S192x512.size h5).toLoadRect (harg5.unread x4))⟩] x4 := by
  intro g hg h p c
  have e : View.readAt (Elt Ideal) arg5.view (Rect.unit ![0, 0] S192x512.size h5).toLoadRect (harg5.unread x4) = x4 := by
    funext x
    rw [harg5.readAt_unread]
    congr 1
    funext a
    match a with
    | ⟨0, _⟩ => exact Fin.ext (by show 0 + 1 * (x 0).val = (x 0).val; omega)
    | ⟨1, _⟩ => exact Fin.ext (by show 0 + 1 * (x 1).val = (x 1).val; omega)
  rw [e]
  let i : S192x2x512.Idx := ix3 ⟨g, hg⟩ p c
  have hi : (Rect.unit (s := S192x2x512) ![g, 0, 0] S1x2x512.size h).toLoadRect.idx (ix3 0 p c) = i := by
    funext a
    match a with
    | ⟨0, _⟩ => exact Fin.ext (by show g + 1 * 0 = g; omega)
    | ⟨1, _⟩ => exact Fin.ext (by show 0 + 1 * p.val = p.val; omega)
    | ⟨2, _⟩ => exact Fin.ext (by show 0 + 1 * c.val = c.val; omega)
  have hemb : ∀ x : S192x2x512.Idx, (Rect.unit (s := S192x2x512) ![0, 0, 0] S192x2x512.size h16).emb x = x := fun x => by
    funext a
    match a with
    | ⟨0, _⟩ => exact Fin.ext (by show 0 + 1 * (x 0).val = (x 0).val; omega)
    | ⟨1, _⟩ => exact Fin.ext (by show 0 + 1 * (x 1).val = (x 1).val; omega)
    | ⟨2, _⟩ => exact Fin.ext (by show 0 + 1 * (x 2).val = (x 2).val; omega)
  show arg17.view.read (Elt Ideal) _ _ = _
  rw [hi, View.read_writes_apply_of_pieces (Val := Elt Ideal) arg17.view _ (k0_pay232 x4) _ ?_ i ?_]
  · show interleaveRows S192x2x512 _ _ bitcasts_S192x2x512_w16_S192x1x512_w32 (ix3 ⟨g, hg⟩ p c) = _
    fin_cases p <;> pointwise
  · intro q hq x
    rw [List.mem_singleton] at hq
    subst hq
    exact (congrArg (k0_pay232 x4) (hemb x)).symm
  · refine ⟨_, List.mem_singleton_self _, ?_⟩
    rw [← hemb i]
    exact LoadRect.idx_mem _ _

/-- Every piece of a list is the tile its place names of the dequantised weights; the number counts the blocks of
    four pieces still in the list. -/
def Blocks (x3 : Vec Ideal S1536x512 .i8) (x4 : Vec Ideal S192x512 .fp8e4m3) (_ : Nat)
    (P : List (View.Piece (Elt Ideal) S3072x512 .bf16)) : Prop :=
  ∀ p ∈ P, ∀ x, p.2 x = WD x3 x4 (p.1.emb x)

theorem blocks_nil (x3 : Vec Ideal S1536x512 .i8) (x4 : Vec Ideal S192x512 .fp8e4m3) : Blocks x3 x4 0 [] :=
  fun _ hp => absurd hp List.not_mem_nil

/-- One block of thirty-two rows of bytes: its four tiles. -/
theorem blocks_cons (x3 : Vec Ideal S1536x512 .i8) (x4 : Vec Ideal S192x512 .fp8e4m3)
    (arg4 : Memref sig Kind.tc Space.vmem S1536x512 .i8) (harg4 : arg4.IsWhole)
    (arg17 : Memref sig Kind.tc Space.vmem S192x2x512 .bf16) (L : List (View.Piece (Elt Ideal) S192x2x512 .bf16))
    (hL : ScaleRows arg17 L x4) {b : Nat} {w1 w2 w3 w4 : FVec Ideal S16x512 .bf16}
    {P : List (View.Piece (Elt Ideal) S3072x512 .bf16)}
    (h4 : ∀ a, (![32 * b, 0] : Fin 2 → Nat) a + S32x512.size a ≤ S1536x512.size a)
    (g1 : ∀ a, (![97 + 2 * b, 0, 0] : Fin 3 → Nat) a + S1x2x512.size a ≤ S192x2x512.size a)
    (g2 : ∀ a, (![96 + 2 * b, 0, 0] : Fin 3 → Nat) a + S1x2x512.size a ≤ S192x2x512.size a)
    (g3 : ∀ a, (![1 + 2 * b, 0, 0] : Fin 3 → Nat) a + S1x2x512.size a ≤ S192x2x512.size a)
    (g4 : ∀ a, (![2 * b, 0, 0] : Fin 3 → Nat) a + S1x2x512.size a ≤ S192x2x512.size a)
    (r1 : ∀ a, (![1552 + 32 * b, 0] : Fin 2 → Nat) a + S16x512.size a ≤ S3072x512.size a)
    (r2 : ∀ a, (![1536 + 32 * b, 0] : Fin 2 → Nat) a + S16x512.size a ≤ S3072x512.size a)
    (r3 : ∀ a, (![16 + 32 * b, 0] : Fin 2 → Nat) a + S16x512.size a ≤ S3072x512.size a)
    (r4 : ∀ a, (![32 * b, 0] : Fin 2 → Nat) a + S16x512.size a ≤ S3072x512.size a)
    (h1 : w1 = tile1 (fieldOf (hiWord (wordOf (View.readAt (Elt Ideal) arg4.view (Rect.unit (s := S1536x512) ![32 * b, 0] S32x512.size h4).toLoadRect (harg4.unread x3)))))
      (arg17.view.readCov L (Rect.unit (s := S192x2x512) ![97 + 2 * b, 0, 0] S1x2x512.size g1).toLoadRect))
    (h2 : w2 = tile0 (fieldOf (hiWord (wordOf (View.readAt (Elt Ideal) arg4.view (Rect.unit (s := S1536x512) ![32 * b, 0] S32x512.size h4).toLoadRect (harg4.unread x3)))))
      (arg17.view.readCov L (Rect.unit (s := S192x2x512) ![96 + 2 * b, 0, 0] S1x2x512.size g2).toLoadRect))
    (h3 : w3 = tile1 (fieldOf (loWord (wordOf (View.readAt (Elt Ideal) arg4.view (Rect.unit (s := S1536x512) ![32 * b, 0] S32x512.size h4).toLoadRect (harg4.unread x3)))))
      (arg17.view.readCov L (Rect.unit (s := S192x2x512) ![1 + 2 * b, 0, 0] S1x2x512.size g3).toLoadRect))
    (h4' : w4 = tile0 (fieldOf (loWord (wordOf (View.readAt (Elt Ideal) arg4.view (Rect.unit (s := S1536x512) ![32 * b, 0] S32x512.size h4).toLoadRect (harg4.unread x3)))))
      (arg17.view.readCov L (Rect.unit (s := S192x2x512) ![2 * b, 0, 0] S1x2x512.size g4).toLoadRect))
    (hP : Blocks x3 x4 b P) :
    Blocks x3 x4 (b + 1) (⟨Rect.unit (s := S3072x512) ![1552 + 32 * b, 0] S16x512.size r1, w1⟩ :: ⟨Rect.unit (s := S3072x512) ![1536 + 32 * b, 0] S16x512.size r2, w2⟩
      :: ⟨Rect.unit (s := S3072x512) ![16 + 32 * b, 0] S16x512.size r3, w3⟩ :: ⟨Rect.unit (s := S3072x512) ![32 * b, 0] S16x512.size r4, w4⟩ :: P) :=
  List.forall_mem_cons.2 ⟨hi1 (h18 := r1) hL (by omega) (by omega) (by omega) h1,
    List.forall_mem_cons.2 ⟨hi0 (h18 := r2) hL (by omega) (by omega) (by omega) h2,
      List.forall_mem_cons.2 ⟨lo1 (h18 := r3) hL (by omega) (by omega) (by omega) h3,
        List.forall_mem_cons.2 ⟨lo0 (h18 := r4) hL (by omega) (by omega) h4', hP⟩⟩⟩⟩

/-- A buffer whose pieces all agree with one function and cover it reads that function. -/
theorem readCov_of_pieces {s : Shape} {e : EltTy} {sp : Space} (v : View sig Kind.tc sp s e) (G : s.Idx → Elt Ideal e)
    (L : List (View.Piece (Elt Ideal) s e)) (h : ∀ p ∈ L, ∀ x, p.2 x = G (p.1.emb x)) (hc : ∀ y, ∃ p ∈ L, y ∈ p.1.set) (B : LoadRect s) :
    v.readCov L B = fun x => G (B.idx x) := by
  funext x
  exact View.read_writes_apply_of_pieces v _ G L h _ (hc _)

end Cert.KernelIdeal.Gen
end
end
-- ==== Proof.Value.Weights.lean ====
/- What the dequantised weights' buffer reads at each kind of grid point, whose 192 tiles cover it. -/
module

public import proofs.«01_k».proof.Proof.Value.WeightTile
public import proofs.«01_k».proof.Proof.Value.RunB
public import Idealize.ShloMosaic.Lib.Ring

@[expose] public section

set_option maxRecDepth 16384

noncomputable section

namespace Cert.KernelIdeal.Gen

open Idealize.ShloMosaic Idealize.ShloMosaic.TcCoe Idealize.SL.Sem Cert.Math

variable (c : Dev nD) (arg4 : Memref sig Kind.tc Space.vmem S1536x512 .i8) (harg4 : arg4.IsWhole)
  (arg5 : Memref sig Kind.tc Space.vmem S192x512 .fp8e4m3) (harg5 : arg5.IsWhole)
  (arg17 : Memref sig Kind.tc Space.vmem S192x2x512 .bf16) (arg18 : Memref sig Kind.tc Space.vmem S3072x512 .bf16)
  (x3 : Vec Ideal S1536x512 .i8) (x4 : Vec Ideal S192x512 .fp8e4m3)

set_option maxHeartbeats 4000000 in
theorem blocks_A : Blocks x3 x4 48 (kernelRun0_A.sl.H17_192 (F := Ideal) c arg4 harg4 arg5 harg5 arg17 x3 x4) := by
  have hL : ScaleRows arg17 (kernelRun0_A.sl.H16_1 (F := Ideal) c arg5 harg5 x4) x4 := scaleRows arg5 harg5 arg17 x4
  unfold kernelRun0_A.sl.H17_192
  iterate 48
    refine blocks_cons x3 x4 arg4 harg4 arg17 _ hL (by decide) (by decide) (by decide) (by decide) (by decide)
      (by decide) (by decide) (by decide) (by decide) (by rfl) (by rfl) (by rfl) (by rfl) ?_
  exact blocks_nil x3 x4

set_option maxHeartbeats 4000000 in
theorem blocks_B : Blocks x3 x4 48 (kernelRun0_B.sl.H17_192 (F := Ideal) c arg4 harg4 arg5 harg5 arg17 x3 x4) := by
  have hL : ScaleRows arg17 (kernelRun0_B.sl.H16_1 (F := Ideal) c arg5 harg5 x4) x4 := scaleRows arg5 harg5 arg17 x4
  unfold kernelRun0_B.sl.H17_192
  iterate 48
    refine blocks_cons x3 x4 arg4 harg4 arg17 _ hL (by decide) (by decide) (by decide) (by decide) (by decide)
      (by decide) (by decide) (by decide) (by decide) (by rfl) (by rfl) (by rfl) (by rfl) ?_
  exact blocks_nil x3 x4

theorem whole_rows {m n : Nat} (h : ∀ a, (![0, 0] : Fin 2 → Nat) a + (⟨2, ![m, n]⟩ : Shape).size a ≤ (⟨2, ![m, n]⟩ : Shape).size a)
    (x : (⟨2, ![m, n]⟩ : Shape).Idx) : (Rect.unit (s := ⟨2, ![m, n]⟩) ![0, 0] (⟨2, ![m, n]⟩ : Shape).size h).toLoadRect.idx x = x := by
  funext a
  match a with
  | ⟨0, _⟩ => exact Fin.ext (by show 0 + 1 * (x 0).val = (x 0).val; omega)
  | ⟨1, _⟩ => exact Fin.ext (by show 0 + 1 * (x 1).val = (x 1).val; omega)

set_option maxHeartbeats 4000000 in
/-- The weights' buffer at the first point. -/
theorem weights_A : kernelRun0_A.sl.v2603 (F := Ideal) c arg4 harg4 arg5 harg5 arg17 arg18 x3 x4 = WD x3 x4 := by
  unfold kernelRun0_A.sl.v2603
  rw [readCov_of_pieces arg18.view (WD x3 x4) _ (blocks_A c arg4 harg4 arg5 harg5 arg17 x3 x4)
    (View.cover_of_tiledL _ ![16, 512] (by sl_kernel_rfl))]
  funext x
  exact congrArg (WD x3 x4) (whole_rows _ x)

set_option maxHeartbeats 4000000 in
/-- The weights' buffer at a later point. -/
theorem weights_B : kernelRun0_B.sl.v2603 (F := Ideal) c arg4 harg4 arg5 harg5 arg17 arg18 x3 x4 = WD x3 x4 := by
  unfold kernelRun0_B.sl.v2603
  rw [readCov_of_pieces arg18.view (WD x3 x4) _ (blocks_B c arg4 harg4 arg5 harg5 arg17 x3 x4)
    (View.cover_of_tiledL _ ![16, 512] (by sl_kernel_rfl))]
  funext x
  exact congrArg (WD x3 x4) (whole_rows _ x)

end Cert.KernelIdeal.Gen
end
end
-- ==== Proof.Value.Out.lean ====
/- What the body leaves at a grid point: the quantised activations, the down-projected activations and the block of the output. -/
module

public import proofs.«01_k».proof.Proof.Value.LoopContent
public import proofs.«01_k».proof.Proof.Value.Weights

@[expose] public section

set_option maxRecDepth 16384

noncomputable section

namespace Cert.KernelIdeal.Gen

open Idealize.ShloMosaic Idealize.ShloMosaic.TcCoe Idealize.ShloMosaic.Tactic Idealize.SL.Sem Cert.Math

/-- The activations projected down. -/
def HD (x0 : Vec Ideal S256x3072 .bf16) (x1 : Vec Ideal S1x3072 .f32) (x6 : Vec Ideal S3072x32 .bf16) : Vec Ideal S256x32 .bf16 :=
  k0_pay231 (F := Ideal) (XS x0 x1) x6

/-- The block of the output from the quantised and the down-projected activations. -/
def YB (g : Vec Ideal S1 .f32) (q : Vec Ideal S256x3072 .bf16) (h : Vec Ideal S256x32 .bf16) (x3 : Vec Ideal S1536x512 .i8)
    (x4 : Vec Ideal S192x512 .fp8e4m3) (x5 : Vec Ideal S1 .f32) (x7 : Vec Ideal S32x512 .bf16) (x8 : Vec Ideal S1x512 .f32) :
    Vec Ideal S256x512 .bf16 :=
  k0_pay1 (F := Ideal) (g (ix1 0)) (k0_pay685 (F := Ideal) q (WD x3 x4)) (k0_pay686 (F := Ideal) h x7) (x5 (ix1 0)) x8

/-- A whole buffer covered by pieces of one array reads as that array. -/
theorem read_of_pieces {m n : Nat} {e : EltTy} {sp : Space} (v : View sig Kind.tc sp ⟨2, ![m, n]⟩ e) (G : (⟨2, ![m, n]⟩ : Shape).Idx → Elt Ideal e)
    (f) (L : List (View.Piece (Elt Ideal) ⟨2, ![m, n]⟩ e)) (hL : ∀ p ∈ L, ∀ x, p.2 x = G (p.1.emb x)) (hc : ∀ y, ∃ p ∈ L, y ∈ p.1.set) (h) :
    v.readAt (Elt Ideal) (Rect.unit (s := ⟨2, ![m, n]⟩) ![0, 0] (⟨2, ![m, n]⟩ : Shape).size h).toLoadRect (v.writes (Elt Ideal) f L) = G := by
  funext x
  show v.read (Elt Ideal) (v.writes (Elt Ideal) f L) _ = _
  rw [View.read_writes_apply_of_pieces v f G L hL _ (hc _), whole_rows]

/-- A single whole piece is a piece of its array, and covers it. -/
theorem one_piece {m n : Nat} {e : EltTy} (G : (⟨2, ![m, n]⟩ : Shape).Idx → Elt Ideal e) (h) :
    (∀ p ∈ ([⟨Rect.unit (s := ⟨2, ![m, n]⟩) ![0, 0] (⟨2, ![m, n]⟩ : Shape).size h, G⟩] : List (View.Piece (Elt Ideal) ⟨2, ![m, n]⟩ e)), ∀ x, p.2 x = G (p.1.emb x)) ∧
    ∀ y, ∃ p ∈ ([⟨Rect.unit (s := ⟨2, ![m, n]⟩) ![0, 0] (⟨2, ![m, n]⟩ : Shape).size h, G⟩] : List (View.Piece (Elt Ideal) ⟨2, ![m, n]⟩ e)), y ∈ p.1.set := by
  refine ⟨fun p hp x => ?_, fun y => ⟨_, List.mem_singleton_self _, ?_⟩⟩
  · cases List.mem_singleton.mp hp
    exact (congrArg G (whole_rows h x)).symm
  · refine (LoadRect.mem_set _).mpr fun a => ⟨(y a).val, (y a).isLt, ?_⟩
    match a with
    | ⟨0, _⟩ => show (y 0).val = 0 + 1 * (y 0).val; omega
    | ⟨1, _⟩ => show (y 1).val = 0 + 1 * (y 1).val; omega

/-- A whole buffer written whole reads as what was written. -/
theorem read_one {m n : Nat} {e : EltTy} {sp : Space} (v : View sig Kind.tc sp ⟨2, ![m, n]⟩ e) (G : (⟨2, ![m, n]⟩ : Shape).Idx → Elt Ideal e) (f) (h) :
    v.read (Elt Ideal) (v.writes (Elt Ideal) f [⟨Rect.unit (s := ⟨2, ![m, n]⟩) ![0, 0] (⟨2, ![m, n]⟩ : Shape).size h, G⟩]) = G := by
  funext y
  exact View.read_writes_apply_of_pieces v f G _ (one_piece G h).1 y ((one_piece G h).2 y)

/-- A whole buffer at named contents reads as them. -/
theorem read_whole {m n : Nat} {e : EltTy} {sp : Space} (r : Memref sig Kind.tc sp ⟨2, ![m, n]⟩ e) (hr : r.IsWhole) (G : (⟨2, ![m, n]⟩ : Shape).Idx → Elt Ideal e) (h) :
    r.view.readAt (Elt Ideal) (Rect.unit (s := ⟨2, ![m, n]⟩) ![0, 0] (⟨2, ![m, n]⟩ : Shape).size h).toLoadRect (hr.unread G) = G := by
  funext x
  rw [hr.readAt_unread, whole_rows]

section

variable (c : Dev nD) (i : grid0.Coords) (arg1 : Memref sig .tc .vmem S256x3072 .bf16) (harg1 : arg1.IsWhole)
  (arg2 : Memref sig .tc .vmem S1x3072 .f32) (harg2 : arg2.IsWhole) (arg3 : Memref sig .tc .smem S1 .f32)
  (harg3 : arg3.IsWhole) (arg4 : Memref sig .tc .vmem S1536x512 .i8) (harg4 : arg4.IsWhole)
  (arg5 : Memref sig .tc .vmem S192x512 .fp8e4m3) (harg5 : arg5.IsWhole) (arg6 : Memref sig .tc .smem S1 .f32)
  (harg6 : arg6.IsWhole) (arg7 : Memref sig .tc .vmem S3072x32 .bf16) (harg7 : arg7.IsWhole)
  (arg8 : Memref sig .tc .vmem S32x512 .bf16) (harg8 : arg8.IsWhole) (arg9 : Memref sig .tc .vmem S1x512 .f32)
  (harg9 : arg9.IsWhole) (arg10 : Memref sig .tc .vmem S256x512 .bf16) (harg10 : arg10.IsWhole)
  (arg11 : Memref sig .tc .vmem S256x1536 .i8) (harg11 : arg11.IsWhole) (arg12 : Memref sig .tc .vmem S256x192 .fp8e4m3)
  (harg12 : arg12.IsWhole) (arg13 : Memref sig .tc .vmem S256x3072 .bf16) (harg13 : arg13.IsWhole)
  (arg14 : Memref sig .tc .vmem S256x3072 .bf16) (harg14 : arg14.IsWhole) (arg15 : Memref sig .tc .vmem S256x32 .bf16)
  (harg15 : arg15.IsWhole) (arg16 : Memref sig .tc .vmem S256x256 .f32) (harg16 : arg16.IsWhole)
  (arg17 : Memref sig .tc .vmem S192x2x512 .bf16) (harg17 : arg17.IsWhole)
  (arg18 : Memref sig .tc .vmem S3072x512 .bf16) (harg18 : arg18.IsWhole)
  (x0 : Vec Ideal S256x3072 .bf16) (x1 : Vec Ideal S1x3072 .f32) (x2 : Vec Ideal S1 .f32) (x3 : Vec Ideal S1536x512 .i8)
  (x4 : Vec Ideal S192x512 .fp8e4m3) (x5 : Vec Ideal S1 .f32) (x6 : Vec Ideal S3072x32 .bf16) (x7 : Vec Ideal S32x512 .bf16) (x8 : Vec Ideal S1x512 .f32)
  (d10 : Vec Ideal S256x512 .bf16) (d11 : Vec Ideal S256x1536 .i8) (d12 : Vec Ideal S256x192 .fp8e4m3) (d13 d14 : Vec Ideal S256x3072 .bf16)
  (d15 : Vec Ideal S256x32 .bf16) (d16 : Vec Ideal S256x256 .f32)

theorem scalar_A3 : kernelRun0_A.sl.r (F := Ideal) c arg3 harg3 x2 = x2 (ix1 0) := by
  unfold kernelRun0_A.sl.r
  rw [harg3.readAt_unread]
  exact congrArg x2 (by funext a; match a with | ⟨0, _⟩ => rfl)

theorem scalar_A6 : kernelRun0_A.sl.r_173 (F := Ideal) c arg6 harg6 x5 = x5 (ix1 0) := by
  unfold kernelRun0_A.sl.r_173
  rw [harg6.readAt_unread]
  exact congrArg x5 (by funext a; match a with | ⟨0, _⟩ => rfl)

theorem scalar_B3 : kernelRun0_B.sl.r (F := Ideal) c arg3 harg3 x2 = x2 (ix1 0) := by
  unfold kernelRun0_B.sl.r
  rw [harg3.readAt_unread]
  exact congrArg x2 (by funext a; match a with | ⟨0, _⟩ => rfl)

theorem scalar_B6 : kernelRun0_B.sl.r_173 (F := Ideal) c arg6 harg6 x5 = x5 (ix1 0) := by
  unfold kernelRun0_B.sl.r_173
  rw [harg6.readAt_unread]
  exact congrArg x5 (by funext a; match a with | ⟨0, _⟩ => rfl)

section

variable (hc0 : cond0_0 i)

/-- What the first point leaves quantised, read back whole. -/
theorem quant_A : kernelRun0_A.sl.v2602 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 d11 d13 d14 = XQ (x2 (ix1 0)) x0 x1 := by
  unfold kernelRun0_A.sl.v2602
  rw [← scalar_A3 c arg3 harg3 x2]
  exact read_of_pieces arg13.view _ _ _ (trips_tiles Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun0_A.sl.r c arg3 harg3 x2) hc0 (harg11.unread d11) (harg13.unread d13) (harg14.unread d14)
      (arg16.view.writes (Elt Ideal) arg16.view.junk kernelRun0_A.sl.H15_1) x0 x1 _ le_rfl).1 (quant_cover Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun0_A.sl.r c arg3 harg3 x2) hc0 (harg11.unread d11) (harg13.unread d13) (harg14.unread d14)
      (arg16.view.writes (Elt Ideal) arg16.view.junk kernelRun0_A.sl.H15_1) x0 x1) _

/-- What the first point leaves smoothed, read back whole. -/
theorem smooth_A : kernelRun0_A.sl.v2627 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 d11 d13 d14 = XS x0 x1 := by
  unfold kernelRun0_A.sl.v2627
  exact read_of_pieces arg14.view _ _ _ (trips_tiles Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun0_A.sl.r c arg3 harg3 x2) hc0 (harg11.unread d11) (harg13.unread d13) (harg14.unread d14)
      (arg16.view.writes (Elt Ideal) arg16.view.junk kernelRun0_A.sl.H15_1) x0 x1 _ le_rfl).2 (smooth_cover Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun0_A.sl.r c arg3 harg3 x2) hc0 (harg11.unread d11) (harg13.unread d13) (harg14.unread d14)
      (arg16.view.writes (Elt Ideal) arg16.view.junk kernelRun0_A.sl.H15_1) x0 x1) _

/-- What the first point leaves projected down. -/
theorem down_A : kernelRun0_A.sl.H14_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x6 d11 d13 d14 =
    [⟨Rect.unit ![0, 0] S256x32.size inb_S256x32_S256x32_0_0, HD x0 x1 x6⟩] := by
  unfold kernelRun0_A.sl.H14_1 HD
  rw [smooth_A, read_whole arg7 harg7 x6]

theorem down_read_A : kernelRun0_A.sl.v2605 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x6 d11 d13 d14 = HD x0 x1 x6 := by
  unfold kernelRun0_A.sl.v2605
  rw [down_A]
  exact read_of_pieces arg15.view (HD x0 x1 x6) _ _ (one_piece _ _).1 (one_piece _ _).2 _

/-- The output's block after the first point. -/
theorem out_A : arg10.view.read (Elt Ideal) (arg10.view.writes (Elt Ideal) (harg10.unread d10)
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 d10 d11 d12 d13 d14 d15 d16).1) =
    YB x2 (XQ (x2 (ix1 0)) x0 x1) (HD x0 x1 x6) x3 x4 x5 x7 x8 := by
  refine (read_one arg10.view _ _ inb_S256x512_S256x512_0_0).trans ?_
  unfold kernelRun0_A.sl.r_174 kernelRun0_A.sl.r_175 YB
  rw [quant_A, weights_A, down_read_A, read_whole arg8 harg8 x7, scalar_A3, scalar_A6, read_whole arg9 harg9 x8]

/-- The quantised activations after the first point. -/
theorem keep_quant_A : arg13.view.read (Elt Ideal) (arg13.view.writes (Elt Ideal) (harg13.unread d13)
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 d10 d11 d12 d13 d14 d15 d16).2.2.2.1) = XQ (x2 (ix1 0)) x0 x1 := by
  rw [← scalar_A3 c arg3 harg3 x2]
  exact funext fun y => View.read_writes_apply_of_pieces arg13.view _ _ _ (trips_tiles Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun0_A.sl.r c arg3 harg3 x2) hc0 (harg11.unread d11) (harg13.unread d13) (harg14.unread d14)
      (arg16.view.writes (Elt Ideal) arg16.view.junk kernelRun0_A.sl.H15_1) x0 x1 _ le_rfl).1 y (quant_cover Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (kernelRun0_A.sl.r c arg3 harg3 x2) hc0 (harg11.unread d11) (harg13.unread d13) (harg14.unread d14)
      (arg16.view.writes (Elt Ideal) arg16.view.junk kernelRun0_A.sl.H15_1) x0 x1 y)

/-- The down-projected activations after the first point. -/
theorem keep_down_A : arg15.view.read (Elt Ideal) (arg15.view.writes (Elt Ideal) (harg15.unread d15)
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 d10 d11 d12 d13 d14 d15 d16).2.2.2.2.2.1) = HD x0 x1 x6 := by
  refine Eq.trans (congrArg (fun L => arg15.view.read (Elt Ideal) (arg15.view.writes (Elt Ideal) (harg15.unread d15) L))
    (down_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x6 d11 d13 d14 hc0)) ?_
  exact read_one arg15.view _ _ _

end

/-- The output's block after a later point. -/
theorem out_B (hc0 : ¬ cond0_0 i) : arg10.view.read (Elt Ideal) (arg10.view.writes (Elt Ideal) (harg10.unread d10)
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 d10 d11 d12 d13 d14 d15 d16).1) =
    YB x2 d13 d15 x3 x4 x5 x7 x8 := by
  refine (read_one arg10.view _ _ inb_S256x512_S256x512_0_0).trans ?_
  unfold kernelRun0_B.sl.r_174 kernelRun0_B.sl.r_175 YB
  rw [weights_B, read_whole arg13 harg13 d13, read_whole arg15 harg15 d15, read_whole arg8 harg8 x7, scalar_B3, scalar_B6, read_whole arg9 harg9 x8]

end

end Cert.KernelIdeal.Gen

end
-- ==== Proof.Value.Frame.lean ====
/- The frame of `KernelIdeal` with its first output named: the kernel runs, its arguments end unchanged, every counter ends
   at zero, and every block of `y` is the one its inputs' blocks give. The packed activations and their scales are forgotten. -/
module

public import proofs.«01_k».proof.Proof.Value.RunB
public import proofs.«01_k».proof.Proof.Value.Out
public import Idealize.ShloMosaic.Lib.Pipeline.FrameBody
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- The argument arrays end unchanged, from a run whose outputs are forgotten. -/
theorem frame_of_forget (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 6 rfl).trans ((hA c 6).trans (V_main_arg6 m c)),
      (Pipeline.RDat.FramePost.arr_in h c 7 rfl).trans ((hA c 7).trans (V_main_arg7 m c)),
      ((h c).2 main_arg8 (Pipeline.mem_restRefs_of main_arg8 (by decide) (by decide))).trans (V_main_arg8 m c)⟩) h

/-! ## The pipeline's proof data -/

/-- The output windows forgotten: the packed activations and their scales. -/
def forgets0 : Fin 12 → Bool := fun w => w.val == 10 || w.val == 11

/-- The first grid point. -/
def pt0 : Fin cfg0.N := ⟨0, by rw [show cfg0.N = 24 from N_0]; decide⟩

/-- The quantised activations the first point leaves for the later ones. -/
def keptQ (c : Dev nD) : Vec Ideal S256x3072 .bf16 :=
  XQ ((iblk m c 2 pt0 : Vec Ideal S1 .f32) (ix1 0)) (iblk m c 0 pt0) (iblk m c 1 pt0)

/-- The down-projected activations the first point leaves for the later ones. -/
def keptH (c : Dev nD) : Vec Ideal S256x32 .bf16 := HD (iblk m c 0 pt0) (iblk m c 1 pt0) (iblk m c 6 pt0)

/-- The block of `y` a point leaves. -/
def outY (c : Dev nD) (t : Fin cfg0.N) : Vec Ideal S256x512 .bf16 :=
  YB (iblk m c 2 t) (keptQ m c) (keptH m c) (iblk m c 3 t) (iblk m c 4 t) (iblk m c 5 t) (iblk m c 7 t) (iblk m c 8 t)

/-- The scratch after the first point: the two buffers later points read at what the first left, the others at anything. -/
def ΦK (c : Dev nD) : sProp 𝕄 :=
  iprop(iprop(owns (c : Thread nD τ) scM0_0 fullShare (keptQ m c) ∗ (∃ d, owns (c : Thread nD τ) scM0_1 fullShare d) ∗ owns (c : Thread nD τ) scM0_2 fullShare (keptH m c) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

/-- The scratch before point `n`. -/
def ΦAt (c : Dev nD) : ℕ → sProp 𝕄
  | 0 => Pipeline.ΦA spec0 c
  | _ + 1 => ΦK m c

theorem ΦAt_pos (c : Dev nD) (n : ℕ) (h : n ≠ 0) : ΦAt m c n = ΦK m c := by
  cases n with
  | zero => exact absurd rfl h
  | succ n => rfl

/-- What later points keep is forgotten at the end. -/
theorem ΦK_forget (c : Dev nD) : ΦK m c ⊢ (Pipeline.ΦA spec0 c : sProp 𝕄) := by
  rw [PhiA0_eq]; unfold ΦK
  iintro ⟨⟨HS0, HS1, HS2, HS3, HS4, HS5⟩, Hg⟩
  isplitl [HS0 HS1 HS2 HS3 HS4 HS5]
  · isplitl [HS0]; · iexists _; iexact HS0
    isplitl [HS1]; · iexact HS1
    isplitl [HS2]; · iexists _; iexact HS2
    isplitl [HS3]; · iexact HS3
    isplitl [HS4]; · iexact HS4
    iexact HS5
  iexact Hg

/-- The proof data of the one pipeline on core `c`: the arrays as the region finds them (`V`); after the body at
    point `t` each input's buffer at its block and the named output at its block, the forgotten ones at `Dat.unnamed`; the
    scratch as `ΦAt` says;
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outY m c t
    | ⟨10, h⟩ => Pipeline.Dat.unnamed (cfg := cfg0) ⟨10, h⟩ t
    | ⟨11, h⟩ => Pipeline.Dat.unnamed (cfg := cfg0) ⟨11, h⟩ t
  Φ t := ΦAt m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outY m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d))

set_option maxHeartbeats 12800000 in
/-- The body at any point: the inputs hold their blocks, and the run of the point's case applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = ΦK m c from rfl, show (dats m 0 c).Φ t.castSucc = ΦAt m c t.val from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  have hN : t.val < 24 := lt_of_lt_of_eq t.isLt (show cfg0.N = 24 from N_0)
  by_cases h0 : t.val % 24 = 0
  · have ht : t = pt0 := Fin.ext (by show t.val = 0; omega)
    rw [show ΦAt m c t.val = Pipeline.ΦA spec0 c from by rw [ht]; rfl, PhiA0_eq]
    unfold ΦK
    iintro ⟨⟨⟨⟨%ds0, HS0⟩, ⟨%ds1, HS1⟩, ⟨%ds2, HS2⟩, ⟨%ds3, HS3⟩, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A (F := Ideal) c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) ((dats m 0 c).before 9 t d9) d10 d11 ds0 ds1 ds2 ds3).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, HS0, HS1, HS2, HS3, HS4, HS5⟩
    isplitl [HS0 HS1 HS2 HS3 HS4 HS5 Hg]
    · isplitl [HS0 HS1 HS2 HS3 HS4 HS5]
      · isplitl [HS0]
        · unfold owns; iexists _; isplitr
          swap; · iexact HS0
          ipureintro
          exact (keep_quant_A c (grid0.coords t) _ _ _ _ _ _ _ _ _ _ _ _ _ _ _ _ _ _ _ _ _ _ _ _ _ _ _ _ _ _ _ _ _ _ _ _ _ _ _ _ _ _ _ _ _ _ _ _ _ _ _ _ _).trans (by rw [ht]; rfl)
        isplitl [HS1]
        · iexists _; unfold owns; iexists _; isplitr
          swap; · iexact HS1
          ipureintro; rfl
        isplitl [HS2]
        · unfold owns; iexists _; isplitr
          swap; · iexact HS2
          ipureintro
          exact (keep_down_A c (grid0.coords t) _ _ _ _ _ _ _ _ _ _ _ _ _ _ _ _ _ _ _ _ _ _ _ _ _ _ _ _ _ _ _ _ _ _ _ _ _ _ _ _ _ _ _ _ _ _ _ _ _ _ _ _ _).trans (by rw [ht]; rfl)
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro
      exact (out_A c (grid0.coords t) _ _ _ _ _ _ _ _ _ _ _ _ _ _ _ _ _ _ _ _ _ _ _ _ _ _ _ _ _ _ _ _ _ _ _ _ _ _ _ _ _ _ _ _ _ _ _ _ _ _ _ _ _).trans (by rw [ht]; rfl)
    isplitl [H10]
    · iexists _; unfold owns; iexists _; isplitr
      swap; · iexact H10
      ipureintro; rfl
    iexists _; unfold owns; iexists _; isplitr
    swap; · iexact H11
    ipureintro; rfl
  · rw [ΦAt_pos m c t.val (by omega)]
    unfold ΦK
    iintro ⟨⟨⟨HS0, ⟨%ds1, HS1⟩, HS2, ⟨%ds3, HS3⟩, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B (F := Ideal) c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) ((dats m 0 c).before 9 t d9) d10 d11 (keptQ m c) ds1 (keptH m c) ds3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexists _; iexact HS1
        isplitl [HS2]; · iexact HS2
        isplitl [HS3]; · iexists _; iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro
      exact out_B c (grid0.coords t) _ _ _ _ _ _ _ _ _ _ _ _ _ _ _ _ _ _ _ _ _ _ _ _ _ _ _ _ _ _ _ _ _ _ _ _ _ _ _ _ _ _ _ _ _ _ _ _ _ _ _ _ _
    isplitl [H10]; · iexists _; iexact H10
    iexists _; iexact H11

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-! ## The run and the frame -/

theorem entails_last (c : Dev nD) : (dats m 0 c).Φ (Fin.last cfg0.N) ⊢ (ΦK m c : sProp 𝕄) := by
  show ΦAt m c cfg0.N ⊢ _
  rw [ΦAt_pos m c cfg0.N (by rw [show cfg0.N = 24 from N_0]; decide)]

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun c => (entails_last m c).trans (ΦK_forget m c))

/-- At the compiled mesh, for any values, from any memory with zero counters: every weakly fair execution of @main on the
    TensorCores terminates, and every final state has every INPUT array of the pipeline unchanged, nothing stated of the
    FORGOTTEN outputs (windows 10, 11) (Lib/Pipeline/Frame.lean `RDat.FramePost` over the proof data with those windows
    forgotten, Dat.lean `Dat.toRForget`), and every other unscoped buffer at its region-entry contents. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_forget m ρ (fun c => (dats m 0 c).toRForget forgets0) (A_eq m) (run_main m ρ)

/-- The run terminates, the argument arrays end unchanged, and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

/-- The run with `y` named: its array is the blocks `outY` written back in turn. -/
theorem run_y : θ_run defs (onTc (τ := τ) (main (F := Ideal))) (s₀ m ρ) (fun r => ∀ c : Dev nD,
    r.2.mem ((c.tc : Thread nD τ).loc (Pipeline.arrRef spec0 9)) = (dats m 0 c).arrAt 9 cfg0.N) :=
  (θ_run defs _ _).mono (fun r h c => ((dats m 0 c).toRForget_arrAt_iff (fgt := forgets0) (w := 9) rfl cfg0.N _).mp ((h c).1 9)) (run_main m ρ)

end Cert.KernelIdeal.Gen

end
-- ==== Proof.Preserves.lean ====
/- The idealization's ledger: each distinct rewrite of packed bf16 words, closed by the rule's own theorem. -/
module

public import proofs.«01_k».proof.Defs
public import Idealize.ShloMosaic.Lib.Bf16Pair
public import Idealize.ShloMosaic.Lib.Bf16PairInverse

@[expose] public section

noncomputable section

namespace Cert.Proof

open Idealize.ShloMosaic Idealize.ShloMosaic.IdealRules.bf16_pair Cert.KernelIdeal

/-- The rewrites of the idealized kernel keep what the printed kernel computes. -/
theorem preserves : preserves_Kernel_KernelIdeal :=
  ⟨bufferStatement S192x2x512 S192x1x512, packStatement S192x512, statement S192x2x512 S192x1x512,
    statement S1x2x512 S1x1x512, statement S16x512 S8x512⟩

end Cert.Proof

end
-- ==== Proof.Math.Row.lean ====
/- The mathematics of one entry of the output: a row of activations quantised in groups of sixteen channels, a column of
   four-bit weights scaled in the same groups, their product, the low-rank branch and the bias. -/
module

public import proofs.«01_k».proof.Proof.Math.Fp4
public import proofs.«01_k».proof.Proof.Math.QuantTile
public import Idealize.ShloMosaic.Lib.IdealHost

@[expose] public section

noncomputable section

namespace Cert.Math

open Idealize.ShloMosaic

/-- The largest magnitude of a channel's group of sixteen. -/
def peakOf (v : Fin 3072 → EReal) (C : Fin 3072) : EReal :=
  Finset.univ.sup fun k : Fin 16 => max (v ⟨16 * (C.val / 16) + k.val, by omega⟩) (-(v ⟨16 * (C.val / 16) + k.val, by omega⟩))

/-- A channel's scale. -/
def scaleOf (g : EReal) (v : Fin 3072 → EReal) (C : Fin 3072) : EReal := scale (Ideal.div (peakOf v C) (6 * g))

/-- A channel's activation, quantised and read back. -/
def act (g : EReal) (v : Fin 3072 → EReal) (C : Fin 3072) : EReal :=
  grid (hold (Ideal.div (v C) (scaleOf g v C * g))) * scaleOf g v C

/-- The quantised product of a row and a column: each byte of the column holds the weights of two channels. -/
def quantDot (g : EReal) (v : Fin 3072 → EReal) (w : Fin 1536 → BitVec 8) (s : Fin 192 → EReal) : EReal :=
  ∑ k : Fin 1536, (act g v ⟨k.val, by omega⟩ * (((dec (loCode (w k)) : ℝ) : EReal) * s ⟨k.val / 16, by omega⟩)
    + act g v ⟨1536 + k.val, by omega⟩ * (((dec (hiCode (w k)) : ℝ) : EReal) * s ⟨96 + k.val / 16, by omega⟩))

/-- One entry of the output. -/
def outAt (g wg : EReal) (v : Fin 3072 → EReal) (w : Fin 1536 → BitVec 8) (s : Fin 192 → EReal)
    (ld : Fin 3072 → Fin 32 → EReal) (lu : Fin 32 → EReal) (bias : EReal) : EReal :=
  quantDot g v w s * (g * wg) + ∑ r : Fin 32, (∑ k : Fin 3072, v k * ld k r) * lu r + bias

theorem scale_ne_zero (w : EReal) : scale w ≠ 0 := by
  unfold scale; split
  · exact one_ne_zero
  · assumption

/-- Scaling an activation by sixty-four and a weight by its inverse leaves their product, and a product with a reciprocal is
    the quotient. -/
theorem act_scaled {g : EReal} (hg : g ≠ 0) (v : Fin 3072 → EReal) (C : Fin 3072) (d : ℝ) (s : EReal) :
    grid (hold (v C * Ideal.div 1 (scaleOf g v C * g))) * (scaleOf g v C * 64) * (((d * (1 / 64) : ℝ) : EReal) * s)
      = act g v C * ((d : EReal) * s) := by
  have h64 : (64 : EReal) * ((d * (1 / 64) : ℝ) : EReal) = (d : EReal) := by
    rw [show (64 : EReal) = ((64 : ℝ) : EReal) from rfl, ← EReal.coe_mul]
    congr 1; ring
  rw [Idealize.ShloMosaic.Ideal.mul_one_div (y := scaleOf g v C * g) (mul_ne_zero (scale_ne_zero _) hg)]
  unfold act
  generalize grid _ = a
  generalize scaleOf g v C = b
  calc a * (b * 64) * (((d * (1 / 64) : ℝ) : EReal) * s)
      = a * b * ((64 * ((d * (1 / 64) : ℝ) : EReal)) * s) := by ac_rfl
    _ = a * b * ((d : EReal) * s) := by rw [h64]

/-- A sum over the channels is one over the bytes, of the two channels of each. -/
theorem sum_halves (f : Fin 3072 → EReal) :
    ∑ k : Fin 3072, f k = ∑ k : Fin 1536, (f ⟨k.val, by omega⟩ + f ⟨1536 + k.val, by omega⟩) := by
  rw [Finset.sum_add_distrib]
  exact Fin.sum_univ_add (a := 1536) (b := 1536) f

end Cert.Math

end
end
-- ==== Proof.Value.Result.lean ====
/- The kernel's output `y` at an index of the program's arguments. -/
module

public import proofs.«01_k».proof.Proof.Value.Frame
public import proofs.«01_k».proof.Proof.Math.Row
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)
open Cert.Math

/-! ## A block of the output at an index -/

theorem YB_apply (g : Vec Ideal S1 .f32) (q : Vec Ideal S256x3072 .bf16) (h : Vec Ideal S256x32 .bf16) (w : Vec Ideal S3072x512 .bf16)
    (x5 : Vec Ideal S1 .f32) (x7 : Vec Ideal S32x512 .bf16) (x8 : Vec Ideal S1x512 .f32) (R : Fin 256) (n : Fin 512) :
    k0_pay1 (F := Ideal) (g (ix1 0)) (k0_pay685 (F := Ideal) q w) (k0_pay686 (F := Ideal) h x7) (x5 (ix1 0)) x8 (ix2 R n)
      = (∑ k : Fin 3072, q (ix2 R k) * w (ix2 k n)) * (g (ix1 0) * x5 (ix1 0)) + ∑ r : Fin 32, h (ix2 R r) * x7 (ix2 r n) + x8 (ix2 0 n) := by
  pointwise [k0_pay1, k0_pay685, k0_pay686]

theorem HD_apply (x0 : Vec Ideal S256x3072 .bf16) (x1 : Vec Ideal S1x3072 .f32) (x6 : Vec Ideal S3072x32 .bf16) (R : Fin 256) (r : Fin 32) :
    HD x0 x1 x6 (ix2 R r) = ∑ k : Fin 3072, smoothed x0 x1 R k * x6 (ix2 k r) := by
  unfold HD
  have e : ∀ X : Vec Ideal S256x3072 .bf16, k0_pay231 (F := Ideal) X x6 (ix2 R r) = ∑ k : Fin 3072, X (ix2 R k) * x6 (ix2 k r) := fun X => by
    pointwise [k0_pay231]
  rw [e]
  rfl

/-! ## The blocks of the inputs -/

variable (m : (ℓ : Loc nD τ sig) → Buf (Elt Ideal) ℓ)

theorem index_0 : ∀ t : Fin cfg0.N, ∀ a : Fin 2, win0_0.index t a = 0 :=
  (by decide +kernel : ∀ t : Fin grid0.N, ∀ a : Fin 2, win0_0.index t a = 0)

theorem block_0 (c : Dev nD) (t : Fin cfg0.N) : iblk (F := Ideal) m c 0 t = V m c main_v0 :=
  funext fun y => congrArg (V m c main_v0) (funext fun a => Fin.ext (by
    show win0_0.index t a * S256x3072.size a + 1 * (y a).val = (y a).val; rw [index_0 t a]; omega))

theorem index_1 : ∀ t : Fin cfg0.N, ∀ a : Fin 2, win0_1.index t a = 0 :=
  (by decide +kernel : ∀ t : Fin grid0.N, ∀ a : Fin 2, win0_1.index t a = 0)

theorem block_1 (c : Dev nD) (t : Fin cfg0.N) : iblk (F := Ideal) m c 1 t = V m c main_v1 :=
  funext fun y => congrArg (V m c main_v1) (funext fun a => Fin.ext (by
    show win0_1.index t a * S1x3072.size a + 1 * (y a).val = (y a).val; rw [index_1 t a]; omega))

theorem index_2 : ∀ t : Fin cfg0.N, ∀ a : Fin 1, win0_2.index t a = 0 :=
  (by decide +kernel : ∀ t : Fin grid0.N, ∀ a : Fin 1, win0_2.index t a = 0)

theorem block_2 (c : Dev nD) (t : Fin cfg0.N) : iblk (F := Ideal) m c 2 t = V m c main_v2 :=
  funext fun y => congrArg (V m c main_v2) (funext fun a => Fin.ext (by
    show win0_2.index t a * S1.size a + 1 * (y a).val = (y a).val; rw [index_2 t a]; omega))

theorem index_5 : ∀ t : Fin cfg0.N, ∀ a : Fin 1, win0_5.index t a = 0 :=
  (by decide +kernel : ∀ t : Fin grid0.N, ∀ a : Fin 1, win0_5.index t a = 0)

theorem block_5 (c : Dev nD) (t : Fin cfg0.N) : iblk (F := Ideal) m c 5 t = V m c main_v3 :=
  funext fun y => congrArg (V m c main_v3) (funext fun a => Fin.ext (by
    show win0_5.index t a * S1.size a + 1 * (y a).val = (y a).val; rw [index_5 t a]; omega))

theorem index_6 : ∀ t : Fin cfg0.N, ∀ a : Fin 2, win0_6.index t a = 0 :=
  (by decide +kernel : ∀ t : Fin grid0.N, ∀ a : Fin 2, win0_6.index t a = 0)

theorem block_6 (c : Dev nD) (t : Fin cfg0.N) : iblk (F := Ideal) m c 6 t = V m c main_arg6 :=
  funext fun y => congrArg (V m c main_arg6) (funext fun a => Fin.ext (by
    show win0_6.index t a * S3072x32.size a + 1 * (y a).val = (y a).val; rw [index_6 t a]; omega))

/-- The column of the whole array a block's column is. -/
def colAt (t : Fin cfg0.N) (n : Fin 512) : Fin 12288 := ⟨t.val * 512 + n.val, by have := lt_of_lt_of_eq t.isLt N_0; omega⟩

theorem index_3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)

theorem block_3 (c : Dev nD) (t : Fin cfg0.N) (k : Fin 1536) (n : Fin 512) :
    (iblk (F := Ideal) m c 3 t : Vec Ideal S1536x512 .i8) (ix2 k n) = V m c main_arg3 (ix2 k (colAt t n)) :=
  congrArg (V m c main_arg3) (funext fun a => Fin.ext (by
    match a with
    | ⟨0, _⟩ => show win0_3.index t (0 : Fin 2) * 1536 + 1 * k.val = k.val; rw [(index_3 t).1]; omega
    | ⟨1, _⟩ => show win0_3.index t (1 : Fin 2) * 512 + 1 * n.val = t.val * 512 + n.val; rw [(index_3 t).2]; omega))

theorem index_4 : ∀ t : Fin cfg0.N, win0_4.index t (0 : Fin 2) = 0 ∧ win0_4.index t (1 : Fin 2) = t.val :=
  (by decide +kernel : ∀ t : Fin grid0.N, win0_4.index t (0 : Fin 2) = 0 ∧ win0_4.index t (1 : Fin 2) = t.val)

theorem block_4 (c : Dev nD) (t : Fin cfg0.N) (k : Fin 192) (n : Fin 512) :
    (iblk (F := Ideal) m c 4 t : Vec Ideal S192x512 .fp8e4m3) (ix2 k n) = V m c main_arg4 (ix2 k (colAt t n)) :=
  congrArg (V m c main_arg4) (funext fun a => Fin.ext (by
    match a with
    | ⟨0, _⟩ => show win0_4.index t (0 : Fin 2) * 192 + 1 * k.val = k.val; rw [(index_4 t).1]; omega
    | ⟨1, _⟩ => show win0_4.index t (1 : Fin 2) * 512 + 1 * n.val = t.val * 512 + n.val; rw [(index_4 t).2]; omega))

theorem index_7 : ∀ t : Fin cfg0.N, win0_7.index t (0 : Fin 2) = 0 ∧ win0_7.index t (1 : Fin 2) = t.val :=
  (by decide +kernel : ∀ t : Fin grid0.N, win0_7.index t (0 : Fin 2) = 0 ∧ win0_7.index t (1 : Fin 2) = t.val)

theorem block_7 (c : Dev nD) (t : Fin cfg0.N) (k : Fin 32) (n : Fin 512) :
    (iblk (F := Ideal) m c 7 t : Vec Ideal S32x512 .bf16) (ix2 k n) = V m c main_arg7 (ix2 k (colAt t n)) :=
  congrArg (V m c main_arg7) (funext fun a => Fin.ext (by
    match a with
    | ⟨0, _⟩ => show win0_7.index t (0 : Fin 2) * 32 + 1 * k.val = k.val; rw [(index_7 t).1]; omega
    | ⟨1, _⟩ => show win0_7.index t (1 : Fin 2) * 512 + 1 * n.val = t.val * 512 + n.val; rw [(index_7 t).2]; omega))

theorem index_8 : ∀ t : Fin cfg0.N, win0_8.index t (0 : Fin 2) = 0 ∧ win0_8.index t (1 : Fin 2) = t.val :=
  (by decide +kernel : ∀ t : Fin grid0.N, win0_8.index t (0 : Fin 2) = 0 ∧ win0_8.index t (1 : Fin 2) = t.val)

theorem block_8 (c : Dev nD) (t : Fin cfg0.N) (k : Fin 1) (n : Fin 512) :
    (iblk (F := Ideal) m c 8 t : Vec Ideal S1x512 .f32) (ix2 k n) = V m c main_v4 (ix2 k (colAt t n)) :=
  congrArg (V m c main_v4) (funext fun a => Fin.ext (by
    match a with
    | ⟨0, _⟩ => show win0_8.index t (0 : Fin 2) * 1 + 1 * k.val = k.val; rw [(index_8 t).1]; omega
    | ⟨1, _⟩ => show win0_8.index t (1 : Fin 2) * 512 + 1 * n.val = t.val * 512 + n.val; rw [(index_8 t).2]; omega))

/-! ## The arrays the host prepares -/

theorem V_main_v0 (c : Dev nD) : V (F := Ideal) m c main_v0 = shapeCast S256x3072 (m ((c : Thread nD τ).loc main_arg0)) shapeCasts_S2x128x3072_S256x3072 := by
  show StableHlo.after hostOps0 (fun b => m (c, b)) (Proc.devRef .tc main_v0) = _
  simp only [hostOps0, StableHlo.TRef.binary, StableHlo.TRef.unary, StableHlo.TRef.toBuf, StableHlo.TRef.ofBuf, cast_eq, List.flatten_cons, List.flatten_nil, List.append_nil, List.cons_append, List.nil_append]
  after_results <;> rfl

theorem V_main_v1 (c : Dev nD) : V (F := Ideal) m c main_v1 = shapeCast S1x3072 (m ((c : Thread nD τ).loc main_arg1)) shapeCasts_S3072_S1x3072 := by
  show StableHlo.after hostOps0 (fun b => m (c, b)) (Proc.devRef .tc main_v1) = _
  simp only [hostOps0, StableHlo.TRef.binary, StableHlo.TRef.unary, StableHlo.TRef.toBuf, StableHlo.TRef.ofBuf, cast_eq, List.flatten_cons, List.flatten_nil, List.append_nil, List.cons_append, List.nil_append]
  after_results <;> rfl

theorem V_main_v2 (c : Dev nD) : V (F := Ideal) m c main_v2 = shapeCast S1 (m ((c : Thread nD τ).loc main_arg2)) shapeCasts_S_S1 := by
  show StableHlo.after hostOps0 (fun b => m (c, b)) (Proc.devRef .tc main_v2) = _
  simp only [hostOps0, StableHlo.TRef.binary, StableHlo.TRef.unary, StableHlo.TRef.toBuf, StableHlo.TRef.ofBuf, cast_eq, List.flatten_cons, List.flatten_nil, List.append_nil, List.cons_append, List.nil_append]
  after_results <;> rfl

theorem V_main_v3 (c : Dev nD) : V (F := Ideal) m c main_v3 = shapeCast S1 (m ((c : Thread nD τ).loc main_arg5)) shapeCasts_S_S1 := by
  show StableHlo.after hostOps0 (fun b => m (c, b)) (Proc.devRef .tc main_v3) = _
  simp only [hostOps0, StableHlo.TRef.binary, StableHlo.TRef.unary, StableHlo.TRef.toBuf, StableHlo.TRef.ofBuf, cast_eq, List.flatten_cons, List.flatten_nil, List.append_nil, List.cons_append, List.nil_append]
  after_results <;> rfl

theorem V_main_v4 (c : Dev nD) : V (F := Ideal) m c main_v4 = shapeCast S1x12288 (m ((c : Thread nD τ).loc main_arg8)) shapeCasts_S12288_S1x12288 := by
  show StableHlo.after hostOps0 (fun b => m (c, b)) (Proc.devRef .tc main_v4) = _
  simp only [hostOps0, StableHlo.TRef.binary, StableHlo.TRef.unary, StableHlo.TRef.toBuf, StableHlo.TRef.ofBuf, cast_eq, List.flatten_cons, List.flatten_nil, List.append_nil, List.cons_append, List.nil_append]
  after_results <;> rfl

/-! ## The array -/

/-- What the array of `y` ends holding: at each index, the block's entry of the point that writes its column. -/
def G9 (c : Dev nD) : Vec Ideal S256x12288 .bf16 := fun i =>
  outY m c ⟨(i 1).val / 512, by have h : (i 1).val < 12288 := (i 1).isLt; rw [show cfg0.N = 24 from N_0]; omega⟩
    (ix2 (i 0) ⟨(i 1).val % 512, by omega⟩)

theorem index_9 : ∀ t : Fin cfg0.N, win0_9.index t (0 : Fin 2) = 0 ∧ win0_9.index t (1 : Fin 2) = t.val :=
  (by decide +kernel : ∀ t : Fin grid0.N, win0_9.index t (0 : Fin 2) = 0 ∧ win0_9.index t (1 : Fin 2) = t.val)

theorem G9_at (c : Dev nD) (t : Fin cfg0.N) (R : Fin 256) (n : Fin 512) (i : S256x12288.Idx) (h0 : (i 0).val = R.val)
    (h1 : (i 1).val = t.val * 512 + n.val) : G9 m c i = outY m c t (ix2 R n) := by
  have ht : ∀ h, (⟨(i 1).val / 512, h⟩ : Fin cfg0.N) = t := fun h => Fin.ext (by show (i 1).val / 512 = t.val; omega)
  have hR : i 0 = R := Fin.ext h0
  have hn : ∀ h, (⟨(i 1).val % 512, h⟩ : Fin 512) = n := fun h => Fin.ext (by show (i 1).val % 512 = n.val; omega)
  unfold G9
  rw [ht, hR, hn]

/-- The array of `y` after the run. -/
theorem final9 (c : Dev nD) : (dats m 0 c).arrAt 9 cfg0.N = G9 m c := by
  refine (dats m 0 c).arrAt_eq_of_cover 9 _ (fun t _ => ?_) (fun i => ?_)
  · show (cfg0.win 9).cut (grid0.coords t) ((dats m 0 c).after 9 t) = _
    rw [after0_9]
    funext y
    have hb0 : (((cfg0.win 9).blk t).view.emb y 0).val = win0_9.index t (0 : Fin 2) * 256 + 1 * (y 0).val := rfl
    have hb1 : (((cfg0.win 9).blk t).view.emb y 1).val = win0_9.index t (1 : Fin 2) * 512 + 1 * (y 1).val := rfl
    rw [(index_9 t).1] at hb0
    rw [(index_9 t).2] at hb1
    refine Eq.trans ?_ (G9_at m c t (y 0) (y 1) (((cfg0.win 9).blk t).view.emb y) (by rw [hb0]; omega) (by rw [hb1]; omega)).symm
    show outY m c t ((cfg0.win 9).xinj (grid0.coords t) y) = _
    refine congrArg (outY m c t) (funext fun a => ?_)
    match a with
    | ⟨0, _⟩ => rfl
    | ⟨1, _⟩ => rfl
  · have hi0 : (i 0).val < 256 := (i 0).isLt
    have hi1 : (i 1).val < 12288 := (i 1).isLt
    have hN : cfg0.N = 24 := N_0
    obtain ⟨t, ht⟩ : ∃ t : Fin cfg0.N, t.val = (i 1).val / 512 := ⟨⟨(i 1).val / 512, by omega⟩, rfl⟩
    refine ⟨t, flush0_9 t, ?_⟩
    show i ∈ ((View.whole main_v5_0).slice (win0_9.rect t)).set
    rw [View.set_slice_whole, Rect.mem_set_unit]
    intro a
    match a with
    | ⟨0, _⟩ =>
      show win0_9.index t (0 : Fin 2) * 256 ≤ (i 0).val ∧ (i 0).val < win0_9.index t (0 : Fin 2) * 256 + 256
      rw [(index_9 t).1]; omega
    | ⟨1, _⟩ =>
      show win0_9.index t (1 : Fin 2) * 512 ≤ (i 1).val ∧ (i 1).val < win0_9.index t (1 : Fin 2) * 512 + 512
      rw [(index_9 t).2]; omega

/-! ## The entries -/

/-- A row of smoothed activations. -/
def rowK (c : Dev nD) (b : Fin 2) (p : Fin 128) : Fin 3072 → EReal := fun C =>
  (show Ideal .bf16 from m ((c : Thread nD τ).loc main_arg0) (ix3 b p C)) * (show Ideal .f32 from m ((c : Thread nD τ).loc main_arg1) (ix1 C))

/-- The global scale. -/
def gK (c : Dev nD) : EReal := (m ((c : Thread nD τ).loc main_arg2) ix0 : Ideal .f32)

theorem v0_at (a : Vec Ideal S2x128x3072 .bf16) (R : Fin 256) (C : Fin 3072) :
    shapeCast S256x3072 a shapeCasts_S2x128x3072_S256x3072 (ix2 R C) = a (ix3 ⟨R.val / 128, by omega⟩ ⟨R.val % 128, by omega⟩ C) := by
  pointwise []

theorem v1_at (a : Vec Ideal S3072 .f32) (C : Fin 3072) : shapeCast S1x3072 a shapeCasts_S3072_S1x3072 (ix2 0 C) = a (ix1 C) := by
  pointwise []

theorem v2_at (a : Vec Ideal S_ .f32) : shapeCast S1 a shapeCasts_S_S1 (ix1 0) = a ix0 := by
  pointwise []

theorem v4_at (a : Vec Ideal S12288 .f32) (n : Fin 12288) : shapeCast S1x12288 a shapeCasts_S12288_S1x12288 (ix2 0 n) = a (ix1 n) := by
  pointwise []

theorem row_eq (c : Dev nD) (t : Fin cfg0.N) (R : Fin 256) :
    smoothed (iblk m c 0 t) (iblk m c 1 t) R = rowK m c ⟨R.val / 128, by omega⟩ ⟨R.val % 128, by omega⟩ := by
  funext C
  unfold smoothed rowK
  rw [block_0, block_1, V_main_v0, V_main_v1, v0_at, v1_at]

theorem g_eq (c : Dev nD) (t : Fin cfg0.N) : (iblk m c 2 t : Vec Ideal S1 .f32) (ix1 0) = gK m c := by
  rw [block_2, V_main_v2, v2_at]; rfl

theorem wg_eq (c : Dev nD) (t : Fin cfg0.N) : (iblk m c 5 t : Vec Ideal S1 .f32) (ix1 0) = m ((c : Thread nD τ).loc main_arg5) ix0 := by
  rw [block_5, V_main_v3, v2_at]

/-- A quantised activation of the kernel, of its row. -/
theorem XQ_row (g : EReal) (x0 : Vec Ideal S256x3072 .bf16) (x1 : Vec Ideal S1x3072 .f32) (R : Fin 256) (C : Fin 3072) :
    XQ g x0 x1 (ix2 R C) = grid (hold (smoothed x0 x1 R C * Ideal.div 1 (scaleOf g (smoothed x0 x1 R) C * g))) * (scaleOf g (smoothed x0 x1 R) C * 64) := rfl

/-- A weight of the first half of the channels. -/
theorem WD_lo (x3 : Vec Ideal S1536x512 .i8) (x4 : Vec Ideal S192x512 .fp8e4m3) (k : Fin 1536) (n : Fin 512) :
    WD x3 x4 (ix2 ⟨k.val, by omega⟩ n) = ((dec (loCode (x3 (ix2 k n))) * (1 / 64) : ℝ) : EReal) * x4 (ix2 ⟨k.val / 16, by omega⟩ n) := by
  have h : k.val < 1536 := k.isLt
  show (if h : k.val < 1536 then _ else _) * _ = _
  rw [dif_pos h]
  rfl

theorem WD_ge (x3 : Vec Ideal S1536x512 .i8) (x4 : Vec Ideal S192x512 .fp8e4m3) (K : Fin 3072) (n : Fin 512) (h : ¬ K.val < 1536) :
    WD x3 x4 (ix2 K n) = ((dec (hiCode (x3 (ix2 ⟨K.val - 1536, by omega⟩ n))) * (1 / 64) : ℝ) : EReal) * x4 (ix2 ⟨K.val / 16, by omega⟩ n) := by
  show (if h : K.val < 1536 then _ else _) * _ = _
  rw [dif_neg h]
  rfl

/-- A weight of the second half of the channels. -/
theorem WD_hi (x3 : Vec Ideal S1536x512 .i8) (x4 : Vec Ideal S192x512 .fp8e4m3) (k : Fin 1536) (n : Fin 512) (K : Fin 3072) (hK : K.val = 1536 + k.val) :
    WD x3 x4 (ix2 K n) = ((dec (hiCode (x3 (ix2 k n))) * (1 / 64) : ℝ) : EReal) * x4 (ix2 ⟨96 + k.val / 16, by omega⟩ n) := by
  have e : ∀ h, (⟨K.val - 1536, h⟩ : Fin 1536) = k := fun h => Fin.ext (by dsimp only; omega)
  have e' : ∀ h, (⟨K.val / 16, h⟩ : Fin 192) = ⟨96 + k.val / 16, by omega⟩ := fun h => Fin.ext (by dsimp only; omega)
  rw [WD_ge x3 x4 K n (by omega), e, e']

/-- The kernel's output at an index of the program's arguments. A global scale of zero cancels the quantised product. -/
theorem G9_apply (c : Dev nD) (R : Fin 256) (N : Fin 12288) :
    G9 m c (ix2 R N)
      = outAt (gK m c) (m ((c : Thread nD τ).loc main_arg5) ix0) (rowK m c ⟨R.val / 128, by omega⟩ ⟨R.val % 128, by omega⟩)
          (fun k => m ((c : Thread nD τ).loc main_arg3) (ix2 k N)) (fun k => m ((c : Thread nD τ).loc main_arg4) (ix2 k N))
          (fun k r => m ((c : Thread nD τ).loc main_arg6) (ix2 k r)) (fun r => m ((c : Thread nD τ).loc main_arg7) (ix2 r N))
          (m ((c : Thread nD τ).loc main_arg8) (ix1 N)) := by
  have hN : cfg0.N = 24 := N_0
  obtain ⟨t, n, e⟩ : ∃ (t : Fin cfg0.N) (n : Fin 512), colAt t n = N :=
    ⟨⟨N.val / 512, by omega⟩, ⟨N.val % 512, by omega⟩, Fin.ext (by show N.val / 512 * 512 + N.val % 512 = N.val; omega)⟩
  rw [G9_at m c t R n (ix2 R N) rfl (by rw [← e]; rfl)]
  unfold outY YB
  rw [YB_apply, g_eq, wg_eq, block_8, V_main_v4, v4_at, e]
  unfold outAt
  refine congrArg₂ (· + ·) (congrArg₂ (· + ·) ?_ (Finset.sum_congr rfl fun r _ => ?_)) rfl
  · by_cases hg : gK m c = 0
    · rw [hg, zero_mul, mul_zero, mul_zero]
    refine congrArg₂ (· * ·) ?_ rfl
    rw [sum_halves]
    unfold quantDot
    refine Finset.sum_congr rfl fun k _ => ?_
    unfold keptQ
    rw [XQ_row, XQ_row, WD_lo, WD_hi _ _ k n _ rfl, block_3, block_4, block_4, g_eq, row_eq, e, V_main_arg3, V_main_arg4, act_scaled hg, act_scaled hg]
  · rw [block_7, V_main_arg7, e]
    unfold keptH
    rw [HD_apply, row_eq, block_6, V_main_arg6]

end Cert.KernelIdeal.Gen

end
end
-- ==== Proof.Math.Codes.lean ====
/- The codes the reference makes of a ratio, and the values it reads of a code: read back, the code of a ratio is the
   ratio rounded to the grid. -/
module

public import proofs.«01_k».proof.Proof.Math.Fp4
public import proofs.«01_k».proof.Proof.Math.QuantTile

@[expose] public section

noncomputable section

namespace Cert.Math

open Idealize.ShloMosaic

theorem bits_3 : Ideal.ofBits .f32 0x40400000#32 = (3 : EReal) := by
  have three : (3 : EReal) = ((3 : ℝ) : EReal) := rfl
  rw [three]
  simp [Ideal.ofBits, Ideal.ieee, -EReal.coe_mul, -EReal.coe_neg] <;> norm_num
theorem bits_3half : Ideal.ofBits .f32 0x3FC00000#32 = ((3 / 2 : ℝ) : EReal) := by
  simp [Ideal.ofBits, Ideal.ieee, -EReal.coe_mul, -EReal.coe_neg] <;> norm_num

/-- Whether a word has the bit. -/
def bit (k n : BitVec 32) : BitVec 1 := IntOp.cmpi .eq (IntOp.andi n k) k

/-- The value the reference reads of a word's low four bits. -/
def valOf (n : BitVec 32) : EReal :=
  Scalar.select (bit 8#32 n)
    (Ideal.ofBits .f32 0x00000000#32 - Scalar.select (bit 4#32 n)
      (Scalar.select (bit 2#32 n) (Scalar.select (bit 1#32 n) (Ideal.ofBits .f32 0x40C00000#32) (Ideal.ofBits .f32 0x40800000#32))
        (Scalar.select (bit 1#32 n) (Ideal.ofBits .f32 0x40400000#32) (Ideal.ofBits .f32 0x40000000#32)))
      (Scalar.select (bit 2#32 n) (Scalar.select (bit 1#32 n) (Ideal.ofBits .f32 0x3FC00000#32) (Ideal.ofBits .f32 0x3F800000#32))
        (Scalar.select (bit 1#32 n) (Ideal.ofBits .f32 0x3F000000#32) (Ideal.ofBits .f32 0x00000000#32))))
    (Scalar.select (bit 4#32 n)
      (Scalar.select (bit 2#32 n) (Scalar.select (bit 1#32 n) (Ideal.ofBits .f32 0x40C00000#32) (Ideal.ofBits .f32 0x40800000#32))
        (Scalar.select (bit 1#32 n) (Ideal.ofBits .f32 0x40400000#32) (Ideal.ofBits .f32 0x40000000#32)))
      (Scalar.select (bit 2#32 n) (Scalar.select (bit 1#32 n) (Ideal.ofBits .f32 0x3FC00000#32) (Ideal.ofBits .f32 0x3F800000#32))
        (Scalar.select (bit 1#32 n) (Ideal.ofBits .f32 0x3F000000#32) (Ideal.ofBits .f32 0x00000000#32))))

/-- The value of a code. -/
theorem valOf_code (c : BitVec 4) : valOf (c.setWidth 32) = ((dec c : ℝ) : EReal) := by
  have h : ∀ m : Fin 16, valOf ((BitVec.ofFin m : BitVec 4).setWidth 32) = ((dec (BitVec.ofFin m) : ℝ) : EReal) := by
    intro m
    unfold valOf
    rw [bits_0, bits_1, bits_2, bits_3, bits_3half, bits_4, bits_6, bits_half]
    fin_cases m <;> (simp [bit, IntOp.cmpi, IntOp.andi, Scalar.select, dec, mag]) <;> first | rfl | (norm_cast) | skip
  exact h c.toFin

/-- The magnitude the reference rounds a ratio to. -/
def magR (t : EReal) : EReal :=
  Scalar.select (Ideal.cmp .olt (min (max t (-t)) (Ideal.ofBits .f32 0x40C00000#32)) (Ideal.ofBits .f32 0x40000000#32))
    (Ideal.div (Ideal.liftRound Ideal.roundHalfEven (Ideal.ofBits .f32 0x40000000#32 * min (max t (-t)) (Ideal.ofBits .f32 0x40C00000#32))) (Ideal.ofBits .f32 0x40000000#32))
    (Scalar.select (Ideal.cmp .olt (min (max t (-t)) (Ideal.ofBits .f32 0x40C00000#32)) (Ideal.ofBits .f32 0x40800000#32))
      (Ideal.liftRound Ideal.roundHalfEven (min (max t (-t)) (Ideal.ofBits .f32 0x40C00000#32)))
      (Ideal.ofBits .f32 0x40000000#32 * Ideal.liftRound Ideal.roundHalfEven (Ideal.div (min (max t (-t)) (Ideal.ofBits .f32 0x40C00000#32)) (Ideal.ofBits .f32 0x40000000#32))))

/-- The three bits of a magnitude. -/
def bitsR (q : EReal) : BitVec 32 :=
  Ideal.fptosi 32 (Scalar.select (Ideal.cmp .olt q (Ideal.ofBits .f32 0x40000000#32)) (Ideal.ofBits .f32 0x40000000#32 * q)
    (Scalar.select (Ideal.cmp .olt q (Ideal.ofBits .f32 0x40800000#32)) (q + Ideal.ofBits .f32 0x40000000#32)
      (Ideal.div q (Ideal.ofBits .f32 0x40000000#32) + Ideal.ofBits .f32 0x40800000#32)))

/-- The code of a ratio of the given magnitude. -/
def codeR (t q : EReal) : BitVec 32 :=
  Scalar.select (IntOp.andi (Ideal.cmp .olt t (Ideal.ofBits .f32 0x00000000#32)) (Ideal.cmp .ogt q (Ideal.ofBits .f32 0x00000000#32)))
    (IntOp.ori (bitsR q) 8#32) (bitsR q)

/-- Two codes in a byte come apart again. -/
theorem unpack_lo : ∀ a b : BitVec 4, IntOp.andi (IntOp.ori (a.setWidth 32) (IntOp.shli .vector (b.setWidth 32) 4#32)) 15#32 = a.setWidth 32 := by
  decide +kernel
theorem unpack_hi : ∀ a b : BitVec 4, IntOp.shrsi .vector (IntOp.ori (a.setWidth 32) (IntOp.shli .vector (b.setWidth 32) 4#32)) 4#32 = b.setWidth 32 := by
  decide +kernel
/-- The codes of a byte of weights. -/
theorem byte_lo : ∀ b : BitVec 8, IntOp.andi (b.setWidth 32) 15#32 = (loCode b).setWidth 32 := by decide +kernel
theorem byte_hi : ∀ b : BitVec 8, IntOp.shrsi .vector (b.setWidth 32) 4#32 = (hiCode b).setWidth 32 := by decide +kernel

/-- Rounding stays between two integers. -/
theorem round_between {r : ℝ} {a b : ℤ} (ha : (a : ℝ) ≤ r) (hb : r ≤ b) :
    a ≤ Ideal.roundHalfEven r ∧ Ideal.roundHalfEven r ≤ b := by
  have h1 : a ≤ ⌊r⌋ := Int.le_floor.mpr ha
  have h2 : ⌊r⌋ ≤ b := by exact_mod_cast (Int.floor_le r).trans hb
  have h3 : 1 / 2 ≤ r - ⌊r⌋ → ⌊r⌋ + 1 ≤ b := fun h => by
    have : ((⌊r⌋ : ℤ) : ℝ) < b := by linarith
    exact_mod_cast this
  simp only [Ideal.roundHalfEven]
  split_ifs with c1 c2 c3
  · exact ⟨h1, h2⟩
  · exact ⟨by omega, h3 (by linarith)⟩
  · exact ⟨h1, h2⟩
  · exact ⟨by omega, h3 (by linarith)⟩

/-- Rounding is odd. -/
theorem round_neg (r : ℝ) : Ideal.roundHalfEven (-r) = - Ideal.roundHalfEven r := by
  by_cases hr : (⌊r⌋ : ℝ) = r
  · have e : ⌊-r⌋ = -⌊r⌋ := by rw [← hr, ← Int.cast_neg, Int.floor_intCast, Int.floor_intCast]
    have e1 : r - (⌊r⌋ : ℝ) = 0 := by rw [hr]; ring
    have e2 : -r - (⌊-r⌋ : ℝ) = 0 := by rw [e, Int.cast_neg, hr]; ring
    simp only [Ideal.roundHalfEven]
    rw [e1, e2, e]; norm_num
  · have hl : (⌊r⌋ : ℝ) < r := lt_of_le_of_ne (Int.floor_le r) hr
    have hu := Int.lt_floor_add_one r
    have e : ⌊-r⌋ = -⌊r⌋ - 1 := by
      rw [Int.floor_eq_iff]; push_cast; constructor <;> linarith
    have ev : Even (-⌊r⌋ - 1) ↔ ¬ Even ⌊r⌋ := by
      rw [Int.even_sub_one, even_neg]
    have e2 : -r - (⌊-r⌋ : ℝ) = 1 - (r - ⌊r⌋) := by rw [e]; push_cast; ring
    simp only [Ideal.roundHalfEven]
    rw [e2, e]
    rcases lt_trichotomy (r - ⌊r⌋) (1 / 2) with h | h | h
    · rw [if_pos h, if_neg (by linarith), if_pos (by linarith)]; ring
    · rw [h]; norm_num; by_cases hE : Even ⌊r⌋ <;> simp [hE, ← Int.not_even_iff_odd]; ring
    · rw [if_pos (by linarith), if_neg (by linarith), if_pos h]; ring

/-- A magnitude rounded to the grid, over the reals. -/
def magQ (a : ℝ) : ℝ :=
  if a < 2 then (Ideal.roundHalfEven (2 * a) : ℝ) / 2 else if a < 4 then (Ideal.roundHalfEven a : ℝ) else 2 * (Ideal.roundHalfEven (a / 2) : ℝ)

/-- It is the magnitude of some three bits. -/
theorem magQ_mag {a : ℝ} (h0 : 0 ≤ a) (h6 : a ≤ 6) : ∃ k : Fin 8, magQ a = mag (BitVec.ofFin k) := by
  unfold magQ
  split_ifs with h1 h2
  · obtain ⟨l, u⟩ := round_between (r := 2 * a) (a := 0) (b := 4) (by push_cast; linarith) (by push_cast; linarith)
    generalize Ideal.roundHalfEven (2 * a) = n at l u
    interval_cases n
    · exact ⟨0, by simp [mag]⟩
    · exact ⟨1, by simp [mag]⟩
    · exact ⟨2, by simp [mag]⟩
    · exact ⟨3, by simp [mag]⟩
    · exact ⟨4, by simp [mag]; norm_num⟩
  · obtain ⟨l, u⟩ := round_between (r := a) (a := 2) (b := 4) (by push_cast; linarith) (by push_cast; linarith)
    generalize Ideal.roundHalfEven a = n at l u
    interval_cases n
    · exact ⟨4, by simp [mag]⟩
    · exact ⟨5, by simp [mag]⟩
    · exact ⟨6, by simp [mag]⟩
  · obtain ⟨l, u⟩ := round_between (r := a / 2) (a := 2) (b := 3) (by push_cast; linarith) (by push_cast; linarith)
    generalize Ideal.roundHalfEven (a / 2) = n at l u
    interval_cases n
    · exact ⟨6, by simp [mag]; norm_num⟩
    · exact ⟨7, by simp [mag]; norm_num⟩

/-- A magnitude's three bits. -/
theorem bitsR_mag (k : Fin 8) : bitsR ((mag (BitVec.ofFin k) : ℝ) : EReal) = (BitVec.ofFin k : BitVec 3).setWidth 32 := by
  have two : (2 : EReal) = ((2 : ℝ) : EReal) := rfl
  have four : (4 : EReal) = ((4 : ℝ) : EReal) := rfl
  unfold bitsR
  rw [bits_2, bits_4, two, four, Ideal.div_coe (by norm_num)]
  simp only [Ideal.cmp, ← EReal.coe_mul, ← EReal.coe_add, EReal.coe_lt_coe_iff, select_if]
  have h0 : ∀ l u, Ideal.toIntClamped l u 0 = max l (min u 0) := fun l u => by
    rw [← EReal.coe_zero, Ideal.toIntClamped_coe]; norm_num
  have h1 : ∀ l u, Ideal.toIntClamped l u 1 = max l (min u 1) := fun l u => by
    rw [← EReal.coe_one, Ideal.toIntClamped_coe]; norm_num
  fin_cases k <;> simp [mag, Ideal.fptosi, -EReal.coe_mul, -EReal.coe_add] <;>
    norm_num [-EReal.coe_mul, -EReal.coe_add, Ideal.toIntClamped_coe, h0, h1] <;> rfl

/-- A ratio held within six is real, of the magnitude the reference takes, and of the ratio's sign. -/
theorem hold_real (t : EReal) : ∃ x : ℝ, hold t = x ∧ |x| ≤ 6 ∧ min (max t (-t)) (6 : EReal) = ((|x| : ℝ) : EReal) ∧ (t < 0 ↔ x < 0) := by
  have six : (6 : EReal) = ((6 : ℝ) : EReal) := rfl
  have nsix : (-6 : EReal) = ((-6 : ℝ) : EReal) := by rw [EReal.coe_neg]; rfl
  unfold hold
  rw [nsix, six]
  induction t using EReal.rec with
  | bot =>
    refine ⟨-6, ?_, by norm_num, ?_, by simp⟩
    · rw [max_eq_right bot_le, min_eq_left]; exact EReal.coe_le_coe_iff.mpr (by norm_num)
    · rw [EReal.neg_bot, max_eq_right bot_le, min_eq_right le_top]; norm_num
  | top =>
    refine ⟨6, ?_, by norm_num, ?_, by norm_num⟩
    · rw [max_eq_left le_top, min_eq_right le_top]
    · rw [EReal.neg_top, max_eq_left bot_le, min_eq_right le_top]; norm_num
  | coe y =>
    refine ⟨min (max y (-6)) 6, ?_, ?_, ?_, ?_⟩
    · norm_cast
    · rw [abs_le]; exact ⟨le_min (le_max_right _ _) (by norm_num), min_le_right _ _⟩
    · rw [← EReal.coe_neg, ← EReal.coe_strictMono.monotone.map_max, ← EReal.coe_strictMono.monotone.map_min]
      congr 1
      show min |y| 6 = _
      rcases le_total y (-6) with h | h
      · rw [max_eq_right h, min_eq_left (by norm_num : (-6 : ℝ) ≤ 6), abs_of_nonpos (by linarith), min_eq_right (by linarith)]; norm_num
      · rw [max_eq_left h]
        rcases le_total y 6 with h' | h'
        · rw [min_eq_left h', min_eq_left (abs_le.mpr ⟨h, h'⟩)]
        · rw [min_eq_right h', abs_of_nonneg (by linarith), min_eq_right h']; norm_num
    · rw [← EReal.coe_zero, EReal.coe_lt_coe_iff]
      constructor
      · intro h; exact min_lt_of_left_lt (max_lt h (by norm_num))
      · intro h; by_contra h'
        exact absurd h (not_lt.mpr (le_min ((not_lt.mp h').trans (le_max_left _ _)) (by norm_num)))

/-- A real rounded to the grid: its magnitude rounded, with its sign. -/
theorem grid_real (x : ℝ) : grid (x : EReal) = (((if x < 0 then - magQ |x| else magQ |x|) : ℝ) : EReal) := by
  have two : (2 : EReal) = ((2 : ℝ) : EReal) := rfl
  have four : (4 : EReal) = ((4 : ℝ) : EReal) := rfl
  have hm : max (x : EReal) (-(x : EReal)) = ((|x| : ℝ) : EReal) := by
    rw [← EReal.coe_neg, ← EReal.coe_strictMono.monotone.map_max]; rfl
  unfold grid step magQ
  rw [hm, two, four]
  simp only [EReal.coe_lt_coe_iff]
  rcases lt_or_ge x 0 with h | h
  · obtain ⟨a, rfl⟩ : ∃ a, x = -a := ⟨-x, by ring⟩
    rw [if_pos h, abs_neg, abs_of_pos (by linarith)]
    split_ifs
    · rw [Ideal.div_coe (by norm_num), ← EReal.coe_mul, Ideal.liftRound_coe, ← EReal.coe_mul, show -a * (1 / (1 / 2)) = -(2 * a) by ring, round_neg]
      congr 1; push_cast; ring
    · rw [← EReal.coe_one, Ideal.div_coe (by norm_num), ← EReal.coe_mul, Ideal.liftRound_coe, ← EReal.coe_mul, show -a * (1 / 1) = -a by ring, round_neg]
      congr 1; push_cast; ring
    · rw [Ideal.div_coe (by norm_num), ← EReal.coe_mul, Ideal.liftRound_coe, ← EReal.coe_mul, show -a * (1 / 2) = -(a / 2) by ring, round_neg]
      congr 1; push_cast; ring
  · rw [if_neg (not_lt.mpr h), abs_of_nonneg h]
    split_ifs
    · rw [Ideal.div_coe (by norm_num), ← EReal.coe_mul, Ideal.liftRound_coe, ← EReal.coe_mul, show x * (1 / (1 / 2)) = 2 * x by ring]
      congr 1; ring
    · rw [← EReal.coe_one, Ideal.div_coe (by norm_num), ← EReal.coe_mul, Ideal.liftRound_coe, ← EReal.coe_mul, show x * (1 / 1) = x by ring]
      congr 1; ring
    · rw [Ideal.div_coe (by norm_num), ← EReal.coe_mul, Ideal.liftRound_coe, ← EReal.coe_mul, show x * (1 / 2) = x / 2 by ring]
      congr 1; ring

/-- The reference's magnitude of a ratio is its held magnitude rounded. -/
theorem magR_real {t : EReal} {a : ℝ} (h : min (max t (-t)) (6 : EReal) = (a : EReal)) : magR t = ((magQ a : ℝ) : EReal) := by
  have two : (2 : EReal) = ((2 : ℝ) : EReal) := rfl
  have four : (4 : EReal) = ((4 : ℝ) : EReal) := rfl
  unfold magR magQ
  rw [bits_6, bits_2, bits_4, h, two, four]
  simp only [Ideal.cmp, EReal.coe_lt_coe_iff, select_if]
  split_ifs
  · rw [← EReal.coe_mul, Ideal.liftRound_coe, Ideal.div_coe (by norm_num), ← EReal.coe_mul]; congr 1; ring
  · rw [Ideal.liftRound_coe]
  · rw [Ideal.div_coe (by norm_num), ← EReal.coe_mul, Ideal.liftRound_coe, ← EReal.coe_mul, show a * (1 / 2) = a / 2 by ring]

/-- The sign bit of a code. -/
theorem sign_set : ∀ k : Fin 8, IntOp.ori ((BitVec.ofFin k : BitVec 3).setWidth 32) 8#32 = ((BitVec.ofFin k : BitVec 3).setWidth 4 ||| 8#4).setWidth 32 := by
  decide +kernel
theorem sign_clear : ∀ k : Fin 8, ((BitVec.ofFin k : BitVec 3).setWidth 32) = ((BitVec.ofFin k : BitVec 3).setWidth 4).setWidth 32 := by
  decide +kernel

theorem dec_pos (k : Fin 8) : dec ((BitVec.ofFin k : BitVec 3).setWidth 4) = mag (BitVec.ofFin k) := by
  fin_cases k <;> simp [dec, mag]
theorem dec_neg (k : Fin 8) : dec ((BitVec.ofFin k : BitVec 3).setWidth 4 ||| 8#4) = - mag (BitVec.ofFin k) := by
  fin_cases k <;> simp [dec, mag]

theorem mag_nonneg (n : BitVec 3) : 0 ≤ mag n := by unfold mag; split_ifs <;> norm_num

/-- READ BACK, the code of a ratio is the ratio rounded to the grid. -/
theorem code_value (t : EReal) : ∃ c : BitVec 4, codeR t (magR t) = c.setWidth 32 ∧ ((dec c : ℝ) : EReal) = grid (hold t) := by
  obtain ⟨x, hx, h6, hm, hs⟩ := hold_real t
  obtain ⟨k, hk⟩ := magQ_mag (abs_nonneg x) h6
  rw [hx, grid_real, magR_real hm, hk]
  unfold codeR
  rw [bitsR_mag, bits_0, sign_set]
  have hand : IntOp.andi (Ideal.cmp .olt t 0) (Ideal.cmp .ogt ((mag (BitVec.ofFin k) : ℝ) : EReal) 0)
      = BitVec.ofBool (decide (x < 0 ∧ 0 < mag (BitVec.ofFin k))) := by
    have h0 : (0 : EReal) < ((mag (BitVec.ofFin k) : ℝ) : EReal) ↔ 0 < mag (BitVec.ofFin k) := by
      rw [← EReal.coe_zero, EReal.coe_lt_coe_iff]
    simp only [Ideal.cmp, hs, h0, IntOp.andi, Bool.decide_and]
    generalize decide (x < 0) = b1
    generalize decide (0 < mag (BitVec.ofFin k)) = b2
    revert b1 b2; decide
  rw [hand]
  by_cases hneg : x < 0 ∧ 0 < mag (BitVec.ofFin k)
  · exact ⟨_, by rw [decide_eq_true hneg]; rfl, by rw [dec_neg, if_pos hneg.1]⟩
  · refine ⟨_, by rw [decide_eq_false hneg]; exact sign_clear k, ?_⟩
    rw [dec_pos]
    split_ifs with hx0
    · have hz : mag (BitVec.ofFin k) = 0 := by
        exact le_antisymm (not_lt.mp fun h => hneg ⟨hx0, h⟩) (mag_nonneg _)
      rw [hz, neg_zero]
    · rfl

end Cert.Math
end
end
-- ==== Proof.Ref.Payloads.lean ====
/- What the reference's kernel computes, at an index: the quantised activations and the weights, each read back. -/
module

public import proofs.«01_k».proof.Proof.Gen.ReferenceIdeal.Skeleton
public import proofs.«01_k».proof.Proof.Math.Codes
public import Idealize.ShloMosaic.Lib.Pointwise
public import Idealize.ShloMosaic.Lib.IdealHost

@[expose] public section

set_option maxRecDepth 16384

noncomputable section

namespace Cert.ReferenceIdeal.Gen

open Idealize.ShloMosaic Idealize.ShloMosaic.Pointwise
open Cert.Math

/-- A scale, a zero one read as one. -/
def sOne (s : EReal) : EReal := if s = 0 then 1 else s

section Activations

variable (g : EReal) (x0 : Vec Ideal S2x128x2x96 .f32) (x1 : Vec Ideal S2x128x2x96x16 .f32)

/-- The ratio at one place. -/
def ratioR (b : Fin 2) (p : Fin 128) (h : Fin 2) (q : Fin 96) (i : Fin 16) : EReal :=
  Ideal.div (x1 (ix5 b p h q i)) (sOne (x0 (ix4 b p h q)) * g)

theorem pay2_apply (b : Fin 2) (p : Fin 128) (h : Fin 2) (q : Fin 96) :
    k0_pay2 x0 (ix4 b p h q) = sOne (x0 (ix4 b p h q)) := by
  pointwise [k0_pay2]
  rfl

theorem pay4_apply (b : Fin 2) (p : Fin 128) (h : Fin 2) (q : Fin 96) (i : Fin 16) :
    k0_pay4 g x0 x1 (ix5 b p h q i) = ratioR g x0 x1 b p h q i := by
  pointwise [k0_pay4]
  rw [pay2_apply]
  rfl

theorem pay5_apply (b : Fin 2) (p : Fin 128) (h : Fin 2) (q : Fin 96) (i : Fin 16) :
    k0_pay5 g x0 x1 (ix5 b p h q i) = magR (ratioR g x0 x1 b p h q i) := by
  rw [← pay4_apply]
  rfl

/-- The codes of the ratios. -/
def codesV (v16 v36 : FVec Ideal S2x128x2x96x16 .f32) (v38 : IVec S2x128x2x96x16 1) (k : Ideal .f32) : IVec S2x128x2x96x16 32 :=
  have v40 := mulf (broadcast S2x128x2x96x16 k) v36
  have v42 := cmpf .olt v36 (broadcast S2x128x2x96x16 (Scalar.ofBits .f32 0x40800000#32))
  have v44 := addf v36 (broadcast S2x128x2x96x16 (Scalar.ofBits .f32 0x40000000#32))
  have v46 := divf v36 (broadcast S2x128x2x96x16 (Scalar.ofBits .f32 0x40000000#32))
  have v48 := addf v46 (broadcast S2x128x2x96x16 (Scalar.ofBits .f32 0x40800000#32))
  have v51 := fptosi 32 (select v38 v40 (select v42 v44 v48))
  have v53 := cmpf .olt v16 (broadcast S2x128x2x96x16 (Scalar.ofBits .f32 0x00000000#32))
  have v55 := cmpf .ogt v36 (broadcast S2x128x2x96x16 (Scalar.ofBits .f32 0x00000000#32))
  select (andi v53 v55) (ori v51 (broadcast S2x128x2x96x16 8#32)) v51

theorem codesV_apply (j : S2x128x2x96x16.Idx) :
    codesV (k0_pay4 g x0 x1) (k0_pay5 g x0 x1) (k0_pay6 g x0 x1) (Scalar.ofBits .f32 0x40000000#32) j
      = codeR (k0_pay4 g x0 x1 j) (k0_pay5 g x0 x1 j) := rfl

/-- Two codes to a word. -/
theorem pay7_codes (v16 v36 : FVec Ideal S2x128x2x96x16 .f32) (v38 : IVec S2x128x2x96x16 1) (k : Ideal .f32) (b : Fin 2) (p : Fin 128) (q : Fin 96) (i : Fin 16) :
    k0_pay7 (F := Ideal) v16 v36 v38 k (ix4 b p q i)
      = IntOp.ori (codesV v16 v36 v38 k (ix5 b p 0 q i)) (IntOp.shli .vector (codesV v16 v36 v38 k (ix5 b p 1 q i)) 4#32) := by
  have e : k0_pay7 (F := Ideal) v16 v36 v38 k
      = ori (shapeCast S2x128x96x16 (extractStridedSlice S2x128x1x96x16 ![0, 0, 0, 0, 0] (codesV v16 v36 v38 k) slices_S2x128x2x96x16_o0_0_0_0_0_S2x128x1x96x16) shapeCasts_S2x128x1x96x16_S2x128x96x16)
        (shli (shapeCast S2x128x96x16 (extractStridedSlice S2x128x1x96x16 ![0, 0, 1, 0, 0] (codesV v16 v36 v38 k) slices_S2x128x2x96x16_o0_0_1_0_0_S2x128x1x96x16) shapeCasts_S2x128x1x96x16_S2x128x96x16)
          (broadcast S2x128x96x16 4#32)) := rfl
  rw [e]
  pointwise

/-- The words of the codes, read back: the low code is the first half's ratio rounded, the high one the second half's. -/
theorem pay7_apply (b : Fin 2) (p : Fin 128) (q : Fin 96) (i : Fin 16) :
    ∃ lo hi : BitVec 4, k0_pay7 (k0_pay4 g x0 x1) (k0_pay5 g x0 x1) (k0_pay6 g x0 x1) (Scalar.ofBits .f32 0x40000000#32) (ix4 b p q i)
        = IntOp.ori (lo.setWidth 32) (IntOp.shli .vector (hi.setWidth 32) 4#32)
      ∧ ((dec lo : ℝ) : EReal) = grid (hold (ratioR g x0 x1 b p 0 q i)) ∧ ((dec hi : ℝ) : EReal) = grid (hold (ratioR g x0 x1 b p 1 q i)) := by
  obtain ⟨lo, hlo, elo⟩ := code_value (ratioR g x0 x1 b p 0 q i)
  obtain ⟨hi, hhi, ehi⟩ := code_value (ratioR g x0 x1 b p 1 q i)
  refine ⟨lo, hi, ?_, elo, ehi⟩
  rw [pay7_codes, codesV_apply, codesV_apply, pay4_apply, pay5_apply, pay4_apply, pay5_apply, hlo, hhi]

end Activations

/-- The values read of words' low bits. -/
def valuesV {s : Shape} (n : IVec s 32) : FVec Ideal s .f32 := fun j => valOf (n j)

section Values

variable (g : EReal) (x0 : Vec Ideal S2x128x2x96 .f32) (x1 : Vec Ideal S2x128x2x96x16 .f32)

theorem pay12_values (v70 : FVec Ideal S2x128x2x96 .bf16) (v16 v36 : FVec Ideal S2x128x2x96x16 .f32) (v38 : IVec S2x128x2x96x16 1) (k : Ideal .f32)
    (b : Fin 2) (p : Fin 128) (q : Fin 96) (i : Fin 16) :
    k0_pay12 v70 (k0_pay10 (F := Ideal) v16 v36 v38 k) (k0_pay11 (F := Ideal) v16 v36 v38 k) 2#32 (ix4 b p q i)
      = valOf (IntOp.andi (k0_pay7 (F := Ideal) v16 v36 v38 k (ix4 b p q i)) 15#32) * v70 (ix4 b p 0 q) := by
  have e : k0_pay12 v70 (k0_pay10 (F := Ideal) v16 v36 v38 k) (k0_pay11 (F := Ideal) v16 v36 v38 k) 2#32
      = mulf (truncf .bf16 (valuesV (k0_pay10 (F := Ideal) v16 v36 v38 k)) bitsLt_bf16_f32)
        (broadcastTo S2x128x96x16 (shapeCast S2x128x96x1 (shapeCast S2x128x96 (extractStridedSlice S2x128x1x96 ![0, 0, 0, 0] v70 slices_S2x128x2x96_o0_0_0_0_S2x128x1x96) shapeCasts_S2x128x1x96_S2x128x96) shapeCasts_S2x128x96_S2x128x96x1) broadcasts_S2x128x96x1_S2x128x96x16) := rfl
  rw [e]
  pointwise [valuesV, k0_pay10]

theorem pay14_values (v70 : FVec Ideal S2x128x2x96 .bf16) (v66 : IVec S2x128x96x16 32)
    (b : Fin 2) (p : Fin 128) (q : Fin 96) (i : Fin 16) :
    k0_pay14 v70 (k0_pay13 v66) 1#32 (ix4 b p q i)
      = valOf (IntOp.shrsi .vector (v66 (ix4 b p q i)) 4#32) * v70 (ix4 b p 1 q) := by
  have e : k0_pay14 v70 (k0_pay13 v66) 1#32
      = mulf (truncf .bf16 (valuesV (k0_pay13 v66)) bitsLt_bf16_f32)
        (broadcastTo S2x128x96x16 (shapeCast S2x128x96x1 (shapeCast S2x128x96 (extractStridedSlice S2x128x1x96 ![0, 0, 1, 0] v70 slices_S2x128x2x96_o0_0_1_0_S2x128x1x96) shapeCasts_S2x128x1x96_S2x128x96) shapeCasts_S2x128x96_S2x128x96x1) broadcasts_S2x128x96x1_S2x128x96x16) := rfl
  rw [e]
  pointwise [valuesV, k0_pay13]

/-- The first half's activations, read back. -/
theorem xlo_apply (b : Fin 2) (p : Fin 128) (q : Fin 96) (i : Fin 16) :
    k0_pay12 (k0_pay9 (F := Ideal) (k0_pay3 x0)) (k0_pay10 (k0_pay4 g x0 x1) (k0_pay5 g x0 x1) (k0_pay6 g x0 x1) (Scalar.ofBits .f32 0x40000000#32))
      (k0_pay11 (k0_pay4 g x0 x1) (k0_pay5 g x0 x1) (k0_pay6 g x0 x1) (Scalar.ofBits .f32 0x40000000#32)) 2#32 (ix4 b p q i)
      = grid (hold (ratioR g x0 x1 b p 0 q i)) * sOne (x0 (ix4 b p 0 q)) := by
  obtain ⟨lo, hi, e, elo, ehi⟩ := pay7_apply g x0 x1 b p q i
  rw [pay12_values, e, unpack_lo, valOf_code, elo, ← pay2_apply]
  rfl

/-- The second half's activations, read back. -/
theorem xhi_apply (b : Fin 2) (p : Fin 128) (q : Fin 96) (i : Fin 16) :
    k0_pay14 (k0_pay9 (F := Ideal) (k0_pay3 x0)) (k0_pay13 (k0_pay7 (k0_pay4 g x0 x1) (k0_pay5 g x0 x1) (k0_pay6 g x0 x1) (Scalar.ofBits .f32 0x40000000#32))) 1#32 (ix4 b p q i)
      = grid (hold (ratioR g x0 x1 b p 1 q i)) * sOne (x0 (ix4 b p 1 q)) := by
  obtain ⟨lo, hi, e, elo, ehi⟩ := pay7_apply g x0 x1 b p q i
  rw [pay14_values, e, unpack_hi, valOf_code, ehi, ← pay2_apply]
  rfl

end Values

section Weights

variable (x3 : Vec Ideal S96x16x12288 .i8) (x4 : Vec Ideal S2x96x12288 .fp8e4m3)

/-- The first half's weights, read back. -/
theorem wlo_apply (q : Fin 96) (i : Fin 16) (n : Fin 12288) :
    k0_pay25 (F := Ideal) (k0_pay16 x4) (k0_pay18 (F := Ideal) x3) (k0_pay19 (F := Ideal) x3) (k0_pay20 (F := Ideal) x3) (k0_pay21 (F := Ideal) x3) (k0_pay22 x3) (k0_pay23 x3)
      (Scalar.ofBits .f32 0x00000000#32) k0_pay24 (ix3 q i n) = ((dec (loCode (x3 (ix3 q i n))) : ℝ) : EReal) * x4 (ix3 0 q n) := by
  have e : k0_pay25 (F := Ideal) (k0_pay16 x4) (k0_pay18 (F := Ideal) x3) (k0_pay19 (F := Ideal) x3) (k0_pay20 (F := Ideal) x3) (k0_pay21 (F := Ideal) x3) (k0_pay22 x3) (k0_pay23 x3)
      (Scalar.ofBits .f32 0x00000000#32) k0_pay24
      = mulf (truncf .bf16 (valuesV (k0_pay17 (F := Ideal) x3)) bitsLt_bf16_f32)
        (broadcastTo S96x16x12288 (shapeCast S96x1x12288 (shapeCast S96x12288 (extractStridedSlice S1x96x12288 ![0, 0, 0] (k0_pay16 x4) slices_S2x96x12288_o0_0_0_S1x96x12288) shapeCasts_S1x96x12288_S96x12288) shapeCasts_S96x12288_S96x1x12288) broadcasts_S96x1x12288_S96x16x12288) := rfl
  rw [e]
  pointwise [valuesV, k0_pay17, k0_pay15, k0_pay16]
  rw [← valOf_code, ← byte_lo]
  try rfl

/-- The second half's weights, read back. -/
theorem whi_apply (q : Fin 96) (i : Fin 16) (n : Fin 12288) :
    k0_pay1 (F := Ideal) (k0_pay16 x4) (k0_pay27 (k0_pay15 (F := Ideal) x3)) (k0_pay28 (k0_pay15 (F := Ideal) x3)) (k0_pay29 (k0_pay15 (F := Ideal) x3)) (k0_pay30 (k0_pay15 (F := Ideal) x3)) (k0_pay31 (k0_pay15 (F := Ideal) x3))
      (Scalar.ofBits .f32 0x3F800000#32) k0_pay32 (ix3 q i n) = ((dec (hiCode (x3 (ix3 q i n))) : ℝ) : EReal) * x4 (ix3 1 q n) := by
  have e : k0_pay1 (F := Ideal) (k0_pay16 x4) (k0_pay27 (k0_pay15 (F := Ideal) x3)) (k0_pay28 (k0_pay15 (F := Ideal) x3)) (k0_pay29 (k0_pay15 (F := Ideal) x3)) (k0_pay30 (k0_pay15 (F := Ideal) x3)) (k0_pay31 (k0_pay15 (F := Ideal) x3))
      (Scalar.ofBits .f32 0x3F800000#32) k0_pay32
      = mulf (truncf .bf16 (valuesV (k0_pay26 (k0_pay15 (F := Ideal) x3))) bitsLt_bf16_f32)
        (broadcastTo S96x16x12288 (shapeCast S96x1x12288 (shapeCast S96x12288 (extractStridedSlice S1x96x12288 ![1, 0, 0] (k0_pay16 x4) slices_S2x96x12288_o1_0_0_S1x96x12288) shapeCasts_S1x96x12288_S96x12288) shapeCasts_S96x12288_S96x1x12288) broadcasts_S96x1x12288_S96x16x12288) := rfl
  rw [e]
  pointwise [valuesV, k0_pay26, k0_pay15, k0_pay16]
  rw [← valOf_code, ← byte_hi]
  try rfl

end Weights

end Cert.ReferenceIdeal.Gen

end
end
-- ==== Proof.Ref.Blocks.lean ====
/- The arrays the reference's kernel leaves, each as what it computes of the arrays it is given. -/
module

public import proofs.«01_k».proof.Proof.Gen.ReferenceIdeal.Run
public import proofs.«01_k».proof.Proof.Ref.Payloads
public import Idealize.ShloMosaic.Lib.WholeRead

@[expose] public section

set_option maxRecDepth 16384

noncomputable section

namespace Cert.ReferenceIdeal.Gen

open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

/-- A whole rectangle takes every index to itself. -/
theorem unit_zero {s : Shape} (o : Fin s.rank → Nat) (ho : ∀ a, o a = 0) (h) (x : s.Idx) : (Rect.unit (s := s) o s.size h).emb x = x :=
  funext fun a => Fin.ext (by show o a + 1 * (x a).val = (x a).val; rw [ho a]; omega)

/-- A whole buffer written whole reads as what was written. -/
theorem read_full {s : Shape} {e : EltTy} {sp : Space} (v : View sig Kind.tc sp s e) (o : Fin s.rank → Nat) (ho : ∀ a, o a = 0) (h)
    (G : s.Idx → Elt Ideal e) (f) : v.read (Elt Ideal) (v.writes (Elt Ideal) f [⟨Rect.unit (s := s) o s.size h, G⟩]) = G := by
  funext y
  refine View.read_writes_apply_of_pieces v f G _ (fun p hp x => ?_) y ⟨_, List.mem_singleton_self _, ?_⟩
  · cases List.mem_singleton.mp hp
    exact (congrArg G (unit_zero o ho h x)).symm
  · exact (LoadRect.mem_set _).mpr fun a => ⟨(y a).val, (y a).isLt, by show (y a).val = o a + 1 * (y a).val; rw [ho a]; omega⟩

/-- A whole buffer at named contents reads as them. -/
theorem load_full {s : Shape} {e : EltTy} {sp : Space} (r : Memref sig Kind.tc sp s e) (hr : r.IsWhole) (G : s.Idx → Elt Ideal e)
    (o : Fin s.rank → Nat) (ho : ∀ a, o a = 0) (h) :
    r.view.readAt (Elt Ideal) (Rect.unit (s := s) o s.size h).toLoadRect (hr.unread G) = G := by
  funext x
  rw [hr.readAt_unread]
  exact congrArg G (unit_zero o ho h x)

section

variable (c : Dev nD) (arg0 : Memref sig .tc .vmem S2x128x2x96 .f32) (harg0 : arg0.IsWhole) (arg1 : Memref sig .tc .vmem S2x128x2x96x16 .f32) (harg1 : arg1.IsWhole)
  (arg2 : Memref sig .tc .smem S1 .f32) (harg2 : arg2.IsWhole) (arg3 : Memref sig .tc .vmem S96x16x12288 .i8) (harg3 : arg3.IsWhole)
  (arg4 : Memref sig .tc .vmem S2x96x12288 .fp8e4m3) (harg4 : arg4.IsWhole) (arg5 : Memref sig .tc .vmem S2x128x96x16 .i8) (harg5 : arg5.IsWhole)
  (arg6 : Memref sig .tc .vmem S2x128x2x96 .fp8e4m3) (harg6 : arg6.IsWhole) (arg7 : Memref sig .tc .vmem S2x128x96x16 .bf16) (harg7 : arg7.IsWhole)
  (arg8 : Memref sig .tc .vmem S2x128x96x16 .bf16) (harg8 : arg8.IsWhole) (arg9 : Memref sig .tc .vmem S96x16x12288 .bf16) (harg9 : arg9.IsWhole)
  (arg10 : Memref sig .tc .vmem S96x16x12288 .bf16) (harg10 : arg10.IsWhole)
  (x0 : Vec Ideal S2x128x2x96 .f32) (x1 : Vec Ideal S2x128x2x96x16 .f32) (x2 : Vec Ideal S1 .f32) (x3 : Vec Ideal S96x16x12288 .i8) (x4 : Vec Ideal S2x96x12288 .fp8e4m3)

/-- The first half's activations. -/
theorem out_7 : out0_A_7 (F := Ideal) c arg0 harg0 arg1 harg1 arg2 harg2 arg3 harg3 arg4 harg4 arg5 harg5 arg6 harg6 arg7 harg7 arg8 harg8 arg9 harg9 arg10 harg10 x0 x1 x2 x3 x4
    = k0_pay12 (k0_pay9 (F := Ideal) (k0_pay3 x0)) (k0_pay10 (k0_pay4 (x2 (ix1 0)) x0 x1) (k0_pay5 (x2 (ix1 0)) x0 x1) (k0_pay6 (x2 (ix1 0)) x0 x1) (Scalar.ofBits .f32 0x40000000#32))
      (k0_pay11 (k0_pay4 (x2 (ix1 0)) x0 x1) (k0_pay5 (x2 (ix1 0)) x0 x1) (k0_pay6 (x2 (ix1 0)) x0 x1) (Scalar.ofBits .f32 0x40000000#32)) 2#32 := by
  have e0 := load_full arg0 harg0 x0 ![0, 0, 0, 0] (by decide) inb_S2x128x2x96_S2x128x2x96_0_0_0_0
  have e1 := load_full arg1 harg1 x1 ![0, 0, 0, 0, 0] (by decide) inb_S2x128x2x96x16_S2x128x2x96x16_0_0_0_0_0
  have e2 : arg2.view.readAt (Elt Ideal) (Rect.unit (s := S1) ![0] S1.size inb_S1_S1_0).toLoadRect (harg2.unread x2) (Shape.Idx.first (by decide)) = x2 (ix1 0) :=
    (congrFun (load_full arg2 harg2 x2 ![0] (by decide) inb_S1_S1_0) _).trans (congrArg x2 (by funext a; match a with | ⟨0, _⟩ => rfl))
  unfold out0_A_7
  refine (read_full VO0_7 ![0, 0, 0, 0] (by decide) inb_S2x128x96x16_S2x128x96x16_0_0_0_0 _ _).trans ?_
  have key : ∀ (y0 : Vec Ideal S2x128x2x96 .f32) (y1 : Vec Ideal S2x128x2x96x16 .f32) (g : EReal), y0 = x0 → y1 = x1 → g = x2 (ix1 0) →
      k0_pay12 (k0_pay9 (F := Ideal) (k0_pay3 y0)) (k0_pay10 (k0_pay4 g y0 y1) (k0_pay5 g y0 y1) (k0_pay6 g y0 y1) (Scalar.ofBits .f32 0x40000000#32))
      (k0_pay11 (k0_pay4 g y0 y1) (k0_pay5 g y0 y1) (k0_pay6 g y0 y1) (Scalar.ofBits .f32 0x40000000#32)) 2#32 = k0_pay12 (k0_pay9 (F := Ideal) (k0_pay3 x0)) (k0_pay10 (k0_pay4 (x2 (ix1 0)) x0 x1) (k0_pay5 (x2 (ix1 0)) x0 x1) (k0_pay6 (x2 (ix1 0)) x0 x1) (Scalar.ofBits .f32 0x40000000#32))
      (k0_pay11 (k0_pay4 (x2 (ix1 0)) x0 x1) (k0_pay5 (x2 (ix1 0)) x0 x1) (k0_pay6 (x2 (ix1 0)) x0 x1) (Scalar.ofBits .f32 0x40000000#32)) 2#32 := by
    rintro _ _ _ rfl rfl rfl; rfl
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10]
  exact key _ _ _ e0 e1 e2

/-- The second half's activations. -/
theorem out_8 : out0_A_8 (F := Ideal) c arg0 harg0 arg1 harg1 arg2 harg2 arg3 harg3 arg4 harg4 arg5 harg5 arg6 harg6 arg7 harg7 arg8 harg8 arg9 harg9 arg10 harg10 x0 x1 x2 x3 x4
    = k0_pay14 (k0_pay9 (F := Ideal) (k0_pay3 x0)) (k0_pay13 (k0_pay7 (k0_pay4 (x2 (ix1 0)) x0 x1) (k0_pay5 (x2 (ix1 0)) x0 x1) (k0_pay6 (x2 (ix1 0)) x0 x1) (Scalar.ofBits .f32 0x40000000#32))) 1#32 := by
  have e0 := load_full arg0 harg0 x0 ![0, 0, 0, 0] (by decide) inb_S2x128x2x96_S2x128x2x96_0_0_0_0
  have e1 := load_full arg1 harg1 x1 ![0, 0, 0, 0, 0] (by decide) inb_S2x128x2x96x16_S2x128x2x96x16_0_0_0_0_0
  have e2 : arg2.view.readAt (Elt Ideal) (Rect.unit (s := S1) ![0] S1.size inb_S1_S1_0).toLoadRect (harg2.unread x2) (Shape.Idx.first (by decide)) = x2 (ix1 0) :=
    (congrFun (load_full arg2 harg2 x2 ![0] (by decide) inb_S1_S1_0) _).trans (congrArg x2 (by funext a; match a with | ⟨0, _⟩ => rfl))
  unfold out0_A_8
  refine (read_full VO0_8 ![0, 0, 0, 0] (by decide) inb_S2x128x96x16_S2x128x96x16_0_0_0_0 _ _).trans ?_
  have key : ∀ (y0 : Vec Ideal S2x128x2x96 .f32) (y1 : Vec Ideal S2x128x2x96x16 .f32) (g : EReal), y0 = x0 → y1 = x1 → g = x2 (ix1 0) →
      k0_pay14 (k0_pay9 (F := Ideal) (k0_pay3 y0)) (k0_pay13 (k0_pay7 (k0_pay4 g y0 y1) (k0_pay5 g y0 y1) (k0_pay6 g y0 y1) (Scalar.ofBits .f32 0x40000000#32))) 1#32 = k0_pay14 (k0_pay9 (F := Ideal) (k0_pay3 x0)) (k0_pay13 (k0_pay7 (k0_pay4 (x2 (ix1 0)) x0 x1) (k0_pay5 (x2 (ix1 0)) x0 x1) (k0_pay6 (x2 (ix1 0)) x0 x1) (Scalar.ofBits .f32 0x40000000#32))) 1#32 := by
    rintro _ _ _ rfl rfl rfl; rfl
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10]
  exact key _ _ _ e0 e1 e2

/-- The first half's weights. -/
theorem out_9 : out0_A_9 (F := Ideal) c arg0 harg0 arg1 harg1 arg2 harg2 arg3 harg3 arg4 harg4 arg5 harg5 arg6 harg6 arg7 harg7 arg8 harg8 arg9 harg9 arg10 harg10 x0 x1 x2 x3 x4
    = k0_pay25 (F := Ideal) (k0_pay16 x4) (k0_pay18 (F := Ideal) x3) (k0_pay19 (F := Ideal) x3) (k0_pay20 (F := Ideal) x3) (k0_pay21 (F := Ideal) x3) (k0_pay22 x3) (k0_pay23 x3)
      (Scalar.ofBits .f32 0x00000000#32) k0_pay24 := by
  have e3 := load_full arg3 harg3 x3 ![0, 0, 0] (by decide) inb_S96x16x12288_S96x16x12288_0_0_0
  have e4 := load_full arg4 harg4 x4 ![0, 0, 0] (by decide) inb_S2x96x12288_S2x96x12288_0_0_0
  unfold out0_A_9
  refine (read_full VO0_9 ![0, 0, 0] (by decide) inb_S96x16x12288_S96x16x12288_0_0_0 _ _).trans ?_
  have key : ∀ (y3 : Vec Ideal S96x16x12288 .i8) (y4 : Vec Ideal S2x96x12288 .fp8e4m3), y3 = x3 → y4 = x4 →
      k0_pay25 (F := Ideal) (k0_pay16 y4) (k0_pay18 (F := Ideal) y3) (k0_pay19 (F := Ideal) y3) (k0_pay20 (F := Ideal) y3) (k0_pay21 (F := Ideal) y3) (k0_pay22 y3) (k0_pay23 y3)
      (Scalar.ofBits .f32 0x00000000#32) k0_pay24 = k0_pay25 (F := Ideal) (k0_pay16 x4) (k0_pay18 (F := Ideal) x3) (k0_pay19 (F := Ideal) x3) (k0_pay20 (F := Ideal) x3) (k0_pay21 (F := Ideal) x3) (k0_pay22 x3) (k0_pay23 x3)
      (Scalar.ofBits .f32 0x00000000#32) k0_pay24 := by
    rintro _ _ rfl rfl; rfl
  exact key _ _ e3 e4

/-- The second half's weights. -/
theorem out_10 : out0_A_10 (F := Ideal) c arg0 harg0 arg1 harg1 arg2 harg2 arg3 harg3 arg4 harg4 arg5 harg5 arg6 harg6 arg7 harg7 arg8 harg8 arg9 harg9 arg10 harg10 x0 x1 x2 x3 x4
    = k0_pay1 (F := Ideal) (k0_pay16 x4) (k0_pay27 (k0_pay15 (F := Ideal) x3)) (k0_pay28 (k0_pay15 (F := Ideal) x3)) (k0_pay29 (k0_pay15 (F := Ideal) x3)) (k0_pay30 (k0_pay15 (F := Ideal) x3)) (k0_pay31 (k0_pay15 (F := Ideal) x3))
      (Scalar.ofBits .f32 0x3F800000#32) k0_pay32 := by
  have e3 := load_full arg3 harg3 x3 ![0, 0, 0] (by decide) inb_S96x16x12288_S96x16x12288_0_0_0
  have e4 := load_full arg4 harg4 x4 ![0, 0, 0] (by decide) inb_S2x96x12288_S2x96x12288_0_0_0
  unfold out0_A_10
  refine (read_full VO0_10 ![0, 0, 0] (by decide) inb_S96x16x12288_S96x16x12288_0_0_0 _ _).trans ?_
  have key : ∀ (y3 : Vec Ideal S96x16x12288 .i8) (y4 : Vec Ideal S2x96x12288 .fp8e4m3), y3 = x3 → y4 = x4 →
      k0_pay1 (F := Ideal) (k0_pay16 y4) (k0_pay27 (k0_pay15 (F := Ideal) y3)) (k0_pay28 (k0_pay15 (F := Ideal) y3)) (k0_pay29 (k0_pay15 (F := Ideal) y3)) (k0_pay30 (k0_pay15 (F := Ideal) y3)) (k0_pay31 (k0_pay15 (F := Ideal) y3))
      (Scalar.ofBits .f32 0x3F800000#32) k0_pay32 = k0_pay1 (F := Ideal) (k0_pay16 x4) (k0_pay27 (k0_pay15 (F := Ideal) x3)) (k0_pay28 (k0_pay15 (F := Ideal) x3)) (k0_pay29 (k0_pay15 (F := Ideal) x3)) (k0_pay30 (k0_pay15 (F := Ideal) x3)) (k0_pay31 (k0_pay15 (F := Ideal) x3))
      (Scalar.ofBits .f32 0x3F800000#32) k0_pay32 := by
    rintro _ _ rfl rfl; rfl
  exact key _ _ e3 e4

end

end Cert.ReferenceIdeal.Gen

end
end
-- ==== Proof.Ref.Arrays.lean ====
/- The arrays the reference's kernel leaves, at an index, of the arrays it is given. -/
module

public import proofs.«01_k».proof.Proof.Ref.Blocks

@[expose] public section

set_option maxRecDepth 16384

noncomputable section

namespace Cert.ReferenceIdeal.Gen

open Idealize.ShloMosaic Idealize.ShloMosaic.TcCoe Idealize.ShloMosaic.Tactic
open Idealize.ShloMosaic.Pipeline (Dat Cfg Window BodyObligation cellOf)
open Cert.Math

variable (m : (ℓ : Loc nD τ sig) → Buf (Elt Ideal) ℓ)

theorem index_7 : ∀ t : Fin cfg0.N, ∀ a : Fin 4, win0_7.index t a = 0 :=
  (by decide +kernel : ∀ t : Fin grid0.N, ∀ a : Fin 4, win0_7.index t a = 0)

/-- Window 7's array after the run is what its sole point leaves. -/
theorem array_7 (c : Dev nD) : (dats (F := Ideal) m 0 c).arrAt 7 cfg0.N = (outsAt0 m c t0_0).2.2.1 := by
  refine (dats (F := Ideal) m 0 c).arrAt_eq_of_cover 7 _ (fun t _ => ?_) (fun i => ⟨t0_0, flush0_7 t0_0, ?_⟩)
  · show (cfg0.win 7).cut (grid0.coords t) ((dats (F := Ideal) m 0 c).after 7 t) = _
    rw [after0_7, fin_N0 t]
    generalize (outsAt0 m c t0_0).2.2.1 = X
    funext y
    show X ((cfg0.win 7).xinj (grid0.coords t0_0) y) = X (((cfg0.win 7).blk t0_0).view.emb y)
    refine congrArg X (funext fun a => Fin.ext ?_)
    show (y a).val = win0_7.index t0_0 a * S2x128x96x16.size a + 1 * (y a).val
    rw [index_7 t0_0 a]; omega
  · show i ∈ ((View.whole main_v14_2).slice (win0_7.rect t0_0)).set
    rw [View.set_slice_whole, Rect.mem_set_unit]
    intro a
    show win0_7.index t0_0 a * S2x128x96x16.size a ≤ (i a).val ∧ (i a).val < win0_7.index t0_0 a * S2x128x96x16.size a + S2x128x96x16.size a
    rw [index_7 t0_0 a]
    have hi : (i a).val < S2x128x96x16.size a := (i a).isLt
    exact ⟨by omega, by omega⟩

theorem index_8 : ∀ t : Fin cfg0.N, ∀ a : Fin 4, win0_8.index t a = 0 :=
  (by decide +kernel : ∀ t : Fin grid0.N, ∀ a : Fin 4, win0_8.index t a = 0)

/-- Window 8's array after the run is what its sole point leaves. -/
theorem array_8 (c : Dev nD) : (dats (F := Ideal) m 0 c).arrAt 8 cfg0.N = (outsAt0 m c t0_0).2.2.2.1 := by
  refine (dats (F := Ideal) m 0 c).arrAt_eq_of_cover 8 _ (fun t _ => ?_) (fun i => ⟨t0_0, flush0_8 t0_0, ?_⟩)
  · show (cfg0.win 8).cut (grid0.coords t) ((dats (F := Ideal) m 0 c).after 8 t) = _
    rw [after0_8, fin_N0 t]
    generalize (outsAt0 m c t0_0).2.2.2.1 = X
    funext y
    show X ((cfg0.win 8).xinj (grid0.coords t0_0) y) = X (((cfg0.win 8).blk t0_0).view.emb y)
    refine congrArg X (funext fun a => Fin.ext ?_)
    show (y a).val = win0_8.index t0_0 a * S2x128x96x16.size a + 1 * (y a).val
    rw [index_8 t0_0 a]; omega
  · show i ∈ ((View.whole main_v14_3).slice (win0_8.rect t0_0)).set
    rw [View.set_slice_whole, Rect.mem_set_unit]
    intro a
    show win0_8.index t0_0 a * S2x128x96x16.size a ≤ (i a).val ∧ (i a).val < win0_8.index t0_0 a * S2x128x96x16.size a + S2x128x96x16.size a
    rw [index_8 t0_0 a]
    have hi : (i a).val < S2x128x96x16.size a := (i a).isLt
    exact ⟨by omega, by omega⟩

theorem index_9 : ∀ t : Fin cfg0.N, ∀ a : Fin 3, win0_9.index t a = 0 :=
  (by decide +kernel : ∀ t : Fin grid0.N, ∀ a : Fin 3, win0_9.index t a = 0)

/-- Window 9's array after the run is what its sole point leaves. -/
theorem array_9 (c : Dev nD) : (dats (F := Ideal) m 0 c).arrAt 9 cfg0.N = (outsAt0 m c t0_0).2.2.2.2.1 := by
  refine (dats (F := Ideal) m 0 c).arrAt_eq_of_cover 9 _ (fun t _ => ?_) (fun i => ⟨t0_0, flush0_9 t0_0, ?_⟩)
  · show (cfg0.win 9).cut (grid0.coords t) ((dats (F := Ideal) m 0 c).after 9 t) = _
    rw [after0_9, fin_N0 t]
    generalize (outsAt0 m c t0_0).2.2.2.2.1 = X
    funext y
    show X ((cfg0.win 9).xinj (grid0.coords t0_0) y) = X (((cfg0.win 9).blk t0_0).view.emb y)
    refine congrArg X (funext fun a => Fin.ext ?_)
    show (y a).val = win0_9.index t0_0 a * S96x16x12288.size a + 1 * (y a).val
    rw [index_9 t0_0 a]; omega
  · show i ∈ ((View.whole main_v14_4).slice (win0_9.rect t0_0)).set
    rw [View.set_slice_whole, Rect.mem_set_unit]
    intro a
    show win0_9.index t0_0 a * S96x16x12288.size a ≤ (i a).val ∧ (i a).val < win0_9.index t0_0 a * S96x16x12288.size a + S96x16x12288.size a
    rw [index_9 t0_0 a]
    have hi : (i a).val < S96x16x12288.size a := (i a).isLt
    exact ⟨by omega, by omega⟩

theorem index_10 : ∀ t : Fin cfg0.N, ∀ a : Fin 3, win0_10.index t a = 0 :=
  (by decide +kernel : ∀ t : Fin grid0.N, ∀ a : Fin 3, win0_10.index t a = 0)

/-- Window 10's array after the run is what its sole point leaves. -/
theorem array_10 (c : Dev nD) : (dats (F := Ideal) m 0 c).arrAt 10 cfg0.N = (outsAt0 m c t0_0).2.2.2.2.2 := by
  refine (dats (F := Ideal) m 0 c).arrAt_eq_of_cover 10 _ (fun t _ => ?_) (fun i => ⟨t0_0, flush0_10 t0_0, ?_⟩)
  · show (cfg0.win 10).cut (grid0.coords t) ((dats (F := Ideal) m 0 c).after 10 t) = _
    rw [after0_10, fin_N0 t]
    generalize (outsAt0 m c t0_0).2.2.2.2.2 = X
    funext y
    show X ((cfg0.win 10).xinj (grid0.coords t0_0) y) = X (((cfg0.win 10).blk t0_0).view.emb y)
    refine congrArg X (funext fun a => Fin.ext ?_)
    show (y a).val = win0_10.index t0_0 a * S96x16x12288.size a + 1 * (y a).val
    rw [index_10 t0_0 a]; omega
  · show i ∈ ((View.whole main_v14_5).slice (win0_10.rect t0_0)).set
    rw [View.set_slice_whole, Rect.mem_set_unit]
    intro a
    show win0_10.index t0_0 a * S96x16x12288.size a ≤ (i a).val ∧ (i a).val < win0_10.index t0_0 a * S96x16x12288.size a + S96x16x12288.size a
    rw [index_10 t0_0 a]
    have hi : (i a).val < S96x16x12288.size a := (i a).isLt
    exact ⟨by omega, by omega⟩

theorem index_0 : ∀ t : Fin cfg0.N, ∀ a : Fin 4, win0_0.index t a = 0 :=
  (by decide +kernel : ∀ t : Fin grid0.N, ∀ a : Fin 4, win0_0.index t a = 0)

theorem block_0 (c : Dev nD) (t : Fin cfg0.N) : iblk (F := Ideal) m c 0 t = V m c main_v10 :=
  funext fun y => congrArg (V m c main_v10) (funext fun a => Fin.ext (by
    show win0_0.index t a * S2x128x2x96.size a + 1 * (y a).val = (y a).val; rw [index_0 t a]; omega))

theorem index_1 : ∀ t : Fin cfg0.N, ∀ a : Fin 5, win0_1.index t a = 0 :=
  (by decide +kernel : ∀ t : Fin grid0.N, ∀ a : Fin 5, win0_1.index t a = 0)

theorem block_1 (c : Dev nD) (t : Fin cfg0.N) : iblk (F := Ideal) m c 1 t = V m c main_v4 :=
  funext fun y => congrArg (V m c main_v4) (funext fun a => Fin.ext (by
    show win0_1.index t a * S2x128x2x96x16.size a + 1 * (y a).val = (y a).val; rw [index_1 t a]; omega))

theorem index_2 : ∀ t : Fin cfg0.N, ∀ a : Fin 1, win0_2.index t a = 0 :=
  (by decide +kernel : ∀ t : Fin grid0.N, ∀ a : Fin 1, win0_2.index t a = 0)

theorem block_2 (c : Dev nD) (t : Fin cfg0.N) : iblk (F := Ideal) m c 2 t = V m c main_v11 :=
  funext fun y => congrArg (V m c main_v11) (funext fun a => Fin.ext (by
    show win0_2.index t a * S1.size a + 1 * (y a).val = (y a).val; rw [index_2 t a]; omega))

theorem index_3 : ∀ t : Fin cfg0.N, ∀ a : Fin 3, win0_3.index t a = 0 :=
  (by decide +kernel : ∀ t : Fin grid0.N, ∀ a : Fin 3, win0_3.index t a = 0)

theorem block_3 (c : Dev nD) (t : Fin cfg0.N) : iblk (F := Ideal) m c 3 t = V m c main_v12 :=
  funext fun y => congrArg (V m c main_v12) (funext fun a => Fin.ext (by
    show win0_3.index t a * S96x16x12288.size a + 1 * (y a).val = (y a).val; rw [index_3 t a]; omega))

theorem index_4 : ∀ t : Fin cfg0.N, ∀ a : Fin 3, win0_4.index t a = 0 :=
  (by decide +kernel : ∀ t : Fin grid0.N, ∀ a : Fin 3, win0_4.index t a = 0)

theorem block_4 (c : Dev nD) (t : Fin cfg0.N) : iblk (F := Ideal) m c 4 t = V m c main_v13 :=
  funext fun y => congrArg (V m c main_v13) (funext fun a => Fin.ext (by
    show win0_4.index t a * S2x96x12288.size a + 1 * (y a).val = (y a).val; rw [index_4 t a]; omega))

/-- The smoothed activations, in groups of sixteen channels. -/
def vR (c : Dev nD) : Vec Ideal S2x128x2x96x16 .f32 := (shapeCast S2x128x2x96x16 (mulf (F := Ideal) (extf (F := Ideal) .f32 (m ((c : Thread nD τ).loc main_arg0)) bitsLt_bf16_f32) (broadcastInDim S2x128x3072 ![0, 1, 2] bcast_S1x1x3072_S2x128x3072_0_1_2 (broadcastInDim S1x1x3072 ![2] bcast_S3072_S1x1x3072_2 (m ((c : Thread nD τ).loc main_arg1))))) shapeCasts_S2x128x3072_S2x128x2x96x16)

/-- The groups' raw scales, held to the range of the format. -/
def sR (c : Dev nD) : Vec Ideal S2x128x2x96 .f32 := minimumf (F := Ideal) (broadcastInDim S2x128x2x96 ![] bcast_S_S2x128x2x96 (constant S_ .f32 0x43E00000#32)) (maximumf (broadcastInDim S2x128x2x96 ![] bcast_S_S2x128x2x96 (constant S_ .f32 0x00000000#32)) (Host.divf (Host.reduce FloatOps.maximumf (Host.absf (vR m c)) (constant S_ .f32 0xFF800000#32) reducesTo_S2x128x2x96x16_S2x128x2x96_d4 h_S_) (broadcastInDim S2x128x2x96 ![] bcast_S_S2x128x2x96 (mulf (constant S_ .f32 0x40C00000#32) (m ((c : Thread nD τ).loc main_arg2))))))

theorem V_main_v4 (c : Dev nD) : V (F := Ideal) m c main_v4 = vR m c := by
  show V0 m c (Proc.devRef .tc main_v4) = _
  simp only [V0, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results <;> rfl

theorem V_main_v10 (c : Dev nD) : V (F := Ideal) m c main_v10 = sR m c := by
  show V0 m c (Proc.devRef .tc main_v10) = _
  simp only [V0, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results <;> rfl

theorem V_main_v11 (c : Dev nD) : V (F := Ideal) m c main_v11 = shapeCast S1 (m ((c : Thread nD τ).loc main_arg2)) shapeCasts_S_S1 := by
  show V0 m c (Proc.devRef .tc main_v11) = _
  simp only [V0, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results <;> rfl

theorem V_main_v12 (c : Dev nD) : V (F := Ideal) m c main_v12 = shapeCast S96x16x12288 (m ((c : Thread nD τ).loc main_arg3)) shapeCasts_S1536x12288_S96x16x12288 := by
  show V0 m c (Proc.devRef .tc main_v12) = _
  simp only [V0, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results <;> rfl

theorem V_main_v13 (c : Dev nD) : V (F := Ideal) m c main_v13 = shapeCast S2x96x12288 (m ((c : Thread nD τ).loc main_arg4)) shapeCasts_S192x12288_S2x96x12288 := by
  show V0 m c (Proc.devRef .tc main_v13) = _
  simp only [V0, hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results <;> rfl

end Cert.ReferenceIdeal.Gen

end
end
-- ==== Proof.Ref.Result.lean ====
/- The reference's output `y` at an index. -/
module

public import proofs.«01_k».proof.Proof.Ref.Arrays
public import proofs.«01_k».proof.Proof.Math.Row

@[expose] public section

set_option maxRecDepth 16384

noncomputable section

namespace Cert.ReferenceIdeal.Gen

open Idealize.ShloMosaic Idealize.ShloMosaic.TcCoe Idealize.ShloMosaic.Tactic
open Idealize.ShloMosaic.Pipeline (Dat Cfg Window BodyObligation cellOf)
open Cert.Math

variable (m : (ℓ : Loc nD τ sig) → Buf (Elt Ideal) ℓ)

/-- The output as printed, of the arrays the kernel left (`X`, `Y`: the two halves' dequantised activations; `Z`, `W`:
    the two halves' dequantised weights) and of the arguments. -/
def yR (a0 : Vec Ideal S2x128x3072 .bf16) (a1 : Vec Ideal S3072 .f32) (a2 a5 : Vec Ideal S_ .f32) (a6 : Vec Ideal S3072x32 .bf16)
    (a7 : Vec Ideal S32x12288 .bf16) (a8 : Vec Ideal S12288 .f32) (X Y : Vec Ideal S2x128x96x16 .bf16) (Z W : Vec Ideal S96x16x12288 .bf16) :
    Vec Ideal S256x12288 .bf16 :=
  shapeCast S256x12288 (truncf (F := Ideal) .bf16 (addf (F := Ideal) (addf (F := Ideal) (mulf (F := Ideal) (Host.dotGeneral (F := Ideal) (φ₁ := .bf16) (φ₂ := .bf16) dot_S2x128x1536x2_S1536x2x12288_S2x128x12288_23_01_01_2_n_n none (concatenate S2x128x1536x2 3 [⟨S2x128x1536x1, (broadcastInDim S2x128x1536x1 ![0, 1, 2] bcast_S2x128x1536_S2x128x1536x1_0_1_2 (shapeCast S2x128x1536 X shapeCasts_S2x128x96x16_S2x128x1536))⟩, ⟨S2x128x1536x1, (broadcastInDim S2x128x1536x1 ![0, 1, 2] bcast_S2x128x1536_S2x128x1536x1_0_1_2 (shapeCast S2x128x1536 Y shapeCasts_S2x128x96x16_S2x128x1536))⟩] concatenates_S2x128x1536x1_S2x128x1536x1_S2x128x1536x2_d3) (concatenate S1536x2x12288 1 [⟨S1536x1x12288, (broadcastInDim S1536x1x12288 ![0, 2] bcast_S1536x12288_S1536x1x12288_0_2 (shapeCast S1536x12288 Z shapeCasts_S96x16x12288_S1536x12288))⟩, ⟨S1536x1x12288, (broadcastInDim S1536x1x12288 ![0, 2] bcast_S1536x12288_S1536x1x12288_0_2 (shapeCast S1536x12288 W shapeCasts_S96x16x12288_S1536x12288))⟩] concatenates_S1536x1x12288_S1536x1x12288_S1536x2x12288_d1)) (broadcastInDim S2x128x12288 ![] bcast_S_S2x128x12288 (mulf (F := Ideal) a2 a5))) (Host.dotGeneral (F := Ideal) (φ₂ := .bf16) dot_S2x128x32_S32x12288_S2x128x12288_2_0_01_1_n_n none (truncf (F := Ideal) .bf16 (Host.dotGeneral (F := Ideal) (φ₂ := .bf16) dot_S2x128x3072_S3072x32_S2x128x32_2_0_01_1_n_n none (truncf (F := Ideal) .bf16 (mulf (F := Ideal) (extf (F := Ideal) .f32 a0 bitsLt_bf16_f32) (broadcastInDim S2x128x3072 ![0, 1, 2] bcast_S1x1x3072_S2x128x3072_0_1_2 (broadcastInDim S1x1x3072 ![2] bcast_S3072_S1x1x3072_2 a1))) bitsLt_bf16_f32) a6) bitsLt_bf16_f32) a7)) (broadcastInDim S2x128x12288 ![0, 1, 2] bcast_S1x1x12288_S2x128x12288_0_1_2 (broadcastInDim S1x1x12288 ![2] bcast_S12288_S1x1x12288_2 a8))) bitsLt_bf16_f32) shapeCasts_S2x128x12288_S256x12288

theorem yR_apply (a0 : Vec Ideal S2x128x3072 .bf16) (a1 : Vec Ideal S3072 .f32) (a2 a5 : Vec Ideal S_ .f32) (a6 : Vec Ideal S3072x32 .bf16)
    (a7 : Vec Ideal S32x12288 .bf16) (a8 : Vec Ideal S12288 .f32) (X Y : Vec Ideal S2x128x96x16 .bf16) (Z W : Vec Ideal S96x16x12288 .bf16)
    (R : Fin 256) (n : Fin 12288) :
    yR a0 a1 a2 a5 a6 a7 a8 X Y Z W (ix2 R n) =
      (∑ k : Fin 1536,
        (X (ix4 ⟨R.val / 128, by omega⟩ ⟨R.val % 128, by omega⟩ ⟨k.val / 16, by omega⟩ ⟨k.val % 16, by omega⟩)
            * Z (ix3 ⟨k.val / 16, by omega⟩ ⟨k.val % 16, by omega⟩ n)
          + Y (ix4 ⟨R.val / 128, by omega⟩ ⟨R.val % 128, by omega⟩ ⟨k.val / 16, by omega⟩ ⟨k.val % 16, by omega⟩)
            * W (ix3 ⟨k.val / 16, by omega⟩ ⟨k.val % 16, by omega⟩ n))) * (a2 ix0 * a5 ix0)
        + ∑ r : Fin 32, (∑ k : Fin 3072,
            a0 (ix3 ⟨R.val / 128, by omega⟩ ⟨R.val % 128, by omega⟩ k) * a1 (ix1 k) * a6 (ix2 k r)) * a7 (ix2 r n)
        + a8 (ix1 n) := by
  pointwise [yR]
  simp only [Finset.univ_unique, Finset.sum_singleton]
  try rfl

variable (m : (ℓ : Loc nD τ sig) → Buf (Elt Ideal) ℓ)

/-- A row of smoothed activations. -/
def rowR (c : Dev nD) (b : Fin 2) (p : Fin 128) : Fin 3072 → EReal := fun C =>
  (show Ideal .bf16 from m ((c : Thread nD τ).loc main_arg0) (ix3 b p C)) * (show Ideal .f32 from m ((c : Thread nD τ).loc main_arg1) (ix1 C))

/-- The global scale. -/
def gR (c : Dev nD) : EReal := (m ((c : Thread nD τ).loc main_arg2) ix0 : Ideal .f32)

theorem vR_apply (c : Dev nD) (b : Fin 2) (p : Fin 128) (h : Fin 2) (q : Fin 96) (i : Fin 16) :
    vR m c (ix5 b p h q i) = rowR m c b p ⟨h.val * 1536 + q.val * 16 + i.val, by omega⟩ := by
  pointwise [vR]
  rfl

/-- A group's raw scale is its channels'. -/
theorem sR_apply (c : Dev nD) (b : Fin 2) (p : Fin 128) (h : Fin 2) (q : Fin 96) (C : Fin 3072) (hC : C.val / 16 = h.val * 96 + q.val) :
    sR m c (ix4 b p h q) = min 448 (max 0 (Ideal.div (peakOf (rowR m c b p) C) (6 * gR m c))) := by
  have e : Finset.fold max (⊥ : EReal) (fun x : Fin 16 => max (vR m c (ix5 b p h q x)) (-(vR m c (ix5 b p h q x)))) Finset.univ
      = peakOf (rowR m c b p) C := by
    unfold peakOf
    refine congrArg (fun f => Finset.fold max (⊥ : EReal) f Finset.univ) (funext fun k => ?_)
    rw [vR_apply, show (⟨h.val * 1536 + q.val * 16 + k.val, by omega⟩ : Fin 3072) = ⟨16 * (C.val / 16) + k.val, by omega⟩ from
      Fin.ext (by show h.val * 1536 + q.val * 16 + k.val = 16 * (C.val / 16) + k.val; rw [hC]; omega)]
  rw [← e]
  pointwise [sR]
  rw [bits_448, bits_6, show Ideal.ofBits .f32 4286578688#32 = (⊥ : EReal) from by simp [Ideal.ofBits, Ideal.ieee]]
  rfl

/-- A group's scale is its channels'. -/
theorem scale_eq (c : Dev nD) (b : Fin 2) (p : Fin 128) (h : Fin 2) (q : Fin 96) (C : Fin 3072) (hC : C.val / 16 = h.val * 96 + q.val) :
    sOne (sR m c (ix4 b p h q)) = scaleOf (gR m c) (rowR m c b p) C := by
  rw [sR_apply m c b p h q C hC]; rfl

/-- A channel's activation, as the reference's kernel reads it back. -/
theorem act_eq (c : Dev nD) (b : Fin 2) (p : Fin 128) (h : Fin 2) (q : Fin 96) (i : Fin 16) (C : Fin 3072)
    (hC : C.val = h.val * 1536 + q.val * 16 + i.val) :
    grid (hold (ratioR (gR m c) (sR m c) (vR m c) b p h q i)) * sOne (sR m c (ix4 b p h q)) = act (gR m c) (rowR m c b p) C := by
  unfold ratioR act
  rw [scale_eq m c b p h q C (by omega), vR_apply,
    show (⟨h.val * 1536 + q.val * 16 + i.val, by omega⟩ : Fin 3072) = C from Fin.ext hC.symm]

/-- The scalar the kernel is handed is the global scale. -/
theorem scalar_eq (c : Dev nD) : (shapeCast S1 (m ((c : Thread nD τ).loc main_arg2)) shapeCasts_S_S1 : Vec Ideal S1 .f32) (ix1 0) = gR m c := by
  pointwise []
  rfl

end Cert.ReferenceIdeal.Gen

end
end
-- ==== Proof.Ref.Left.lean ====
/- The four arrays the reference's kernel leaves for its output `y`, at an index of the program's arguments. -/
module

public import proofs.«01_k».proof.Proof.Ref.Result

@[expose] public section

set_option maxRecDepth 16384

noncomputable section

namespace Cert.ReferenceIdeal.Gen

open Idealize.ShloMosaic Idealize.ShloMosaic.TcCoe Idealize.ShloMosaic.Tactic
open Idealize.ShloMosaic.Pipeline (Dat Cfg Window BodyObligation cellOf)
open Cert.Math

variable (m : (ℓ : Loc nD τ sig) → Buf (Elt Ideal) ℓ)

/-- The packed weights in groups of sixteen bytes. -/
theorem bytes_at (a : Vec Ideal S1536x12288 .i8) (q : Fin 96) (i : Fin 16) (n : Fin 12288) (k : Fin 1536) (hk : k.val = q.val * 16 + i.val) :
    shapeCast S96x16x12288 a shapeCasts_S1536x12288_S96x16x12288 (ix3 q i n) = a (ix2 k n) := by
  have e : k = ⟨q.val * 16 + i.val, by omega⟩ := Fin.ext hk
  rw [e]
  pointwise []

/-- The weights' scales in two halves. -/
theorem scales_at (a : Vec Ideal S192x12288 .fp8e4m3) (h : Fin 2) (q : Fin 96) (n : Fin 12288) (k : Fin 192) (hk : k.val = h.val * 96 + q.val) :
    shapeCast S2x96x12288 a shapeCasts_S192x12288_S2x96x12288 (ix3 h q n) = a (ix2 k n) := by
  have e : k = ⟨h.val * 96 + q.val, by omega⟩ := Fin.ext hk
  rw [e]
  pointwise []

theorem left_7 (c : Dev nD) (b : Fin 2) (p : Fin 128) (q : Fin 96) (i : Fin 16) (C : Fin 3072) (hC : C.val = q.val * 16 + i.val) :
    Value.reg_main_v14_2 (F := Ideal) m c (ix4 b p q i) = act (gR m c) (rowR m c b p) C := by
  unfold Value.reg_main_v14_2
  rw [array_7]
  simp only [outsAt0]
  rw [out_7, block_0, block_1, block_2, V_main_v4, V_main_v10, V_main_v11, xlo_apply, scalar_eq]
  exact act_eq m c b p 0 q i C (by simp only [Fin.val_zero]; omega)

theorem left_8 (c : Dev nD) (b : Fin 2) (p : Fin 128) (q : Fin 96) (i : Fin 16) (C : Fin 3072) (hC : C.val = 1536 + q.val * 16 + i.val) :
    Value.reg_main_v14_3 (F := Ideal) m c (ix4 b p q i) = act (gR m c) (rowR m c b p) C := by
  unfold Value.reg_main_v14_3
  rw [array_8]
  simp only [outsAt0]
  rw [out_8, block_0, block_1, block_2, V_main_v4, V_main_v10, V_main_v11, xhi_apply, scalar_eq]
  exact act_eq m c b p 1 q i C (by simp only [Fin.val_one]; omega)

theorem left_9 (c : Dev nD) (q : Fin 96) (i : Fin 16) (n : Fin 12288) (k : Fin 1536) (hk : k.val = q.val * 16 + i.val) :
    Value.reg_main_v14_4 (F := Ideal) m c (ix3 q i n)
      = ((dec (loCode (m ((c : Thread nD τ).loc main_arg3) (ix2 k n))) : ℝ) : EReal) * (m ((c : Thread nD τ).loc main_arg4) (ix2 ⟨q.val, by omega⟩ n) : Ideal .fp8e4m3) := by
  unfold Value.reg_main_v14_4
  rw [array_9]
  simp only [outsAt0]
  rw [out_9, block_3, block_4, V_main_v12, V_main_v13, wlo_apply]
  rw [bytes_at _ q i n k hk, scales_at _ 0 q n ⟨q.val, by omega⟩ (by simp)]

theorem left_10 (c : Dev nD) (q : Fin 96) (i : Fin 16) (n : Fin 12288) (k : Fin 1536) (hk : k.val = q.val * 16 + i.val) :
    Value.reg_main_v14_5 (F := Ideal) m c (ix3 q i n)
      = ((dec (hiCode (m ((c : Thread nD τ).loc main_arg3) (ix2 k n))) : ℝ) : EReal) * (m ((c : Thread nD τ).loc main_arg4) (ix2 ⟨96 + q.val, by omega⟩ n) : Ideal .fp8e4m3) := by
  unfold Value.reg_main_v14_5
  rw [array_10]
  simp only [outsAt0]
  rw [out_10, block_3, block_4, V_main_v12, V_main_v13, whi_apply]
  rw [bytes_at _ q i n k hk, scales_at _ 1 q n ⟨96 + q.val, by omega⟩ (by simp)]

/-- The reference's output at an index of the program's arguments. -/
theorem y_apply (c : Dev nD) (R : Fin 256) (n : Fin 12288) :
    yR (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7))
        (m ((c : Thread nD τ).loc main_arg8)) (Value.reg_main_v14_2 m c) (Value.reg_main_v14_3 m c) (Value.reg_main_v14_4 m c)
        (Value.reg_main_v14_5 m c) (ix2 R n)
      = outAt (gR m c) (m ((c : Thread nD τ).loc main_arg5) ix0) (rowR m c ⟨R.val / 128, by omega⟩ ⟨R.val % 128, by omega⟩)
          (fun k => m ((c : Thread nD τ).loc main_arg3) (ix2 k n)) (fun k => m ((c : Thread nD τ).loc main_arg4) (ix2 k n))
          (fun k r => m ((c : Thread nD τ).loc main_arg6) (ix2 k r)) (fun r => m ((c : Thread nD τ).loc main_arg7) (ix2 r n))
          (m ((c : Thread nD τ).loc main_arg8) (ix1 n)) := by
  rw [yR_apply]
  unfold outAt quantDot
  have key : ∀ k : Fin 1536,
      (Value.reg_main_v14_2 (F := Ideal) m c (ix4 ⟨R.val / 128, by omega⟩ ⟨R.val % 128, by omega⟩ ⟨k.val / 16, by omega⟩ ⟨k.val % 16, by omega⟩)
        = act (gR m c) (rowR m c ⟨R.val / 128, by omega⟩ ⟨R.val % 128, by omega⟩) ⟨k.val, by omega⟩)
      ∧ (Value.reg_main_v14_3 (F := Ideal) m c (ix4 ⟨R.val / 128, by omega⟩ ⟨R.val % 128, by omega⟩ ⟨k.val / 16, by omega⟩ ⟨k.val % 16, by omega⟩)
        = act (gR m c) (rowR m c ⟨R.val / 128, by omega⟩ ⟨R.val % 128, by omega⟩) ⟨1536 + k.val, by omega⟩) := fun k =>
    ⟨left_7 m c _ _ _ _ _ (by show k.val = k.val / 16 * 16 + k.val % 16; omega),
      left_8 m c _ _ _ _ _ (by show 1536 + k.val = 1536 + k.val / 16 * 16 + k.val % 16; omega)⟩
  have key' : ∀ k : Fin 1536, k.val = (⟨k.val / 16, by omega⟩ : Fin 96).val * 16 + (⟨k.val % 16, by omega⟩ : Fin 16).val := fun k => by
    show k.val = k.val / 16 * 16 + k.val % 16; omega
  refine congrArg₂ (· + ·) (congrArg₂ (· + ·) (congrArg₂ (· * ·) (Finset.sum_congr rfl fun k _ => ?_) rfl) rfl) rfl
  rw [(key k).1, (key k).2, left_9 m c _ _ n k (key' k), left_10 m c _ _ n k (key' k)]

end Cert.ReferenceIdeal.Gen

end
end
-- ==== Proof.Algebraic.lean ====
/- The ideal kernel and the reference leave the same `y`: each entry of either is the one `outAt` of the arguments. -/
module

public import proofs.«01_k».proof.Defs
public import proofs.«01_k».proof.Proof.Value.Result
public import proofs.«01_k».proof.Proof.Ref.Left

@[expose] public section

set_option maxRecDepth 16384

noncomputable section

namespace Cert.Proof

open Idealize.ShloMosaic Idealize.ShloMosaic.TcCoe Idealize.SL.Sem
open Cert.Math

/-- The mask's side conditions. -/
theorem onFacts : Cert.On_only_y.Facts := by
  constructor <;> decide

theorem outAt_congr {g g' wg wg' : EReal} {v v' : Fin 3072 → EReal} {w w' : Fin 1536 → BitVec 8} {s s' : Fin 192 → EReal}
    {ld ld' : Fin 3072 → Fin 32 → EReal} {lu lu' : Fin 32 → EReal} {b b' : EReal} (hg : g = g') (hwg : wg = wg') (hv : v = v')
    (hw : w = w') (hs : s = s') (hld : ld = ld') (hlu : lu = lu') (hb : b = b') :
    outAt g wg v w s ld lu b = outAt g' wg' v' w' s' ld' lu' b' := by
  subst hg hwg hv hw hs hld hlu hb; rfl

/-- On the first result the two programs agree. -/
theorem algebraic (hO : Cert.On_only_y.Facts) :
    algebraic_KernelIdeal_ReferenceIdeal_on_only_y := by
  intro m g m' g' hpre hm
  refine ⟨fun c => KernelIdeal.Gen.G9 m c, fun c => m ((c.tc : Thread KernelIdeal.nD KernelIdeal.τ).loc KernelIdeal.main_v5_1),
    fun c => m ((c.tc : Thread KernelIdeal.nD KernelIdeal.τ).loc KernelIdeal.main_v5_2), ?_, ?_⟩
  · refine (θ_run _ _ _).mono (fun r h c => ⟨fun i _ => ?_, fun i hi => ?_, fun i hi => ?_, h.1 c⟩)
      (θ_run_and (KernelIdeal.Gen.unchanged m g) (KernelIdeal.Gen.run_y m g))
    · exact congrFun ((h.2 c).trans (KernelIdeal.Gen.final9 m c)) i
    · exact absurd (show (0#1 : BitVec 1) = 1#1 from hi) (by decide)
    · exact absurd (show (0#1 : BitVec 1) = 1#1 from hi) (by decide)
  · refine (θ_run _ _ _).mono (fun r h c => ⟨fun i _ => ?_, fun i hi => ?_, fun i hi => ?_, (h c).2.2.2⟩) (ReferenceIdeal.Value.run m' g')
    · refine (congrFun (h c).1 i).trans ?_
      obtain ⟨h0, h1, h2, h3, h4, h5, h6, h7, h8⟩ := hm c
      have hi : i = ix2 (n0 := 256) (n1 := 12288) (i 0) (i 1) := by
        funext a; match a with
        | ⟨0, _⟩ => rfl
        | ⟨1, _⟩ => rfl
      rw [hi]
      refine (ReferenceIdeal.Gen.y_apply m' c (i 0) (i 1)).trans (Eq.trans ?_ (KernelIdeal.Gen.G9_apply m c (i 0) (i 1)).symm)
      exact outAt_congr (congrFun h2 ix0) (congrFun h5 ix0)
        (funext fun C => congrArg₂ (fun a b : EReal => a * b) (congrFun h0 (ix3 _ _ C)) (congrFun h1 (ix1 C)))
        (funext fun k => congrFun h3 (ix2 k (i 1))) (funext fun k => congrFun h4 (ix2 k (i 1)))
        (funext fun k => funext fun r => congrFun h6 (ix2 k r)) (funext fun r => congrFun h7 (ix2 r (i 1))) (congrFun h8 (ix1 (i 1)))
    · exact absurd (show (0#1 : BitVec 1) = 1#1 from hi) (by decide)
    · exact absurd (show (0#1 : BitVec 1) = 1#1 from hi) (by decide)

end Cert.Proof

end
-- ==== Proof.lean ====
module

public import proofs.«01_k».proof.Defs
public import proofs.«01_k».proof.Proof.Kernel.Frame
public import proofs.«01_k».proof.Proof.Value.Frame
public import proofs.«01_k».proof.Proof.Gen.ReferenceIdeal.Run
public import proofs.«01_k».proof.Proof.Gen.ReferenceIdeal.Frame
public import proofs.«01_k».proof.Proof.Preserves
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, onFacts,
    fun m g _ => Cert.Kernel.Gen.frame m g, fun m g _ => Cert.KernelIdeal.Gen.frame m g,
    fun m g _ => Cert.ReferenceIdeal.Gen.frame m g, preserves, algebraic onFacts⟩

end Cert.Proof

end
